-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_fit_KernelIdeal [hPre_rows_fit_KernelIdeal : Cert.Pre_rows_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_fit_ReferenceIdeal [hPre_rows_fit_ReferenceIdeal : Cert.Pre_rows_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_fit_KernelIdeal [hKernelIdeal : Cert.KernelIdeal.Facts] [hPre_rows_fit_KernelIdeal : Cert.Pre_rows_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_fit_ReferenceIdeal [hReferenceIdeal : Cert.ReferenceIdeal.Facts] [hPre_rows_fit_ReferenceIdeal : Cert.Pre_rows_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_fit_KernelIdeal [hKernelIdeal : Cert.KernelIdeal.Facts] [hReferenceIdeal : Cert.ReferenceIdeal.Facts] [hPre_rows_fit_KernelIdeal : Cert.Pre_rows_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_fit_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![2048, 256]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![2048]⟩ (Layout.meshBlock [2, 4, 4] ![[2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![2048, 256]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_fit_KernelIdeal : Cert.Pre_rows_fit_KernelIdeal.Facts) (hPre_rows_fit_ReferenceIdeal : Cert.Pre_rows_fit_ReferenceIdeal.Facts),
    quiescent_Kernel (hKernel := hKernel)
    ∧ quiescent_KernelIdeal (hKernelIdeal := hKernelIdeal)
    ∧ quiescent_KernelIdeal_pre_rows_fit_KernelIdeal (hKernelIdeal := hKernelIdeal) (hPre_rows_fit_KernelIdeal := hPre_rows_fit_KernelIdeal)
    ∧ quiescent_ReferenceIdeal (hReferenceIdeal := hReferenceIdeal)
    ∧ quiescent_ReferenceIdeal_pre_rows_fit_ReferenceIdeal (hReferenceIdeal := hReferenceIdeal) (hPre_rows_fit_ReferenceIdeal := hPre_rows_fit_ReferenceIdeal)
    ∧ preserves_Kernel_KernelIdeal
    ∧ algebraic_KernelIdeal_ReferenceIdeal_pre_rows_fit_KernelIdeal (hKernelIdeal := hKernelIdeal) (hReferenceIdeal := hReferenceIdeal) (hPre_rows_fit_KernelIdeal := hPre_rows_fit_KernelIdeal)
-- ==== Pre_rows_fit_KernelIdeal.lean ====
abbrev S512x256 : Shape := ⟨2, ![512, 256]⟩
abbrev S512 : Shape := ⟨1, ![512]⟩
abbrev S4 : Shape := ⟨1, ![4]⟩
abbrev S4x1 : Shape := ⟨2, ![4, 1]⟩
abbrev S1x512 : Shape := ⟨2, ![1, 512]⟩
abbrev S4x512 : Shape := ⟨2, ![4, 512]⟩
abbrev S_ : Shape := ⟨0, ![]⟩

class Facts : Prop where
  bcast_S4_S4x1_0 : S4.BroadcastsInDim S4x1 (![0] : Fin 1 → Fin S4x1.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S4x1_S4x512_0_1 : S4x1.BroadcastsInDim S4x512 (![0, 1] : Fin 2 → Fin S4x512.rank)
  natLt_1_32 : 1 < 32
  reducesTo_S4x512_S4_d1 : S4x512.ReducesTo [1] S4
  h_S_ : 0 < S_.numel
  bcast_S_S4 : S_.BroadcastsInDim S4 (![] : Fin 0 → Fin S4.rank)

variable [Facts]

def fn {F : FTy → Type} [FloatOps F] (main_arg0 : FVec F S512x256 .bf16) (main_arg1 : IVec S512 32) : IVec S4 1 :=
  let main_v0 : IVec S4 32 := iotaInDim S4 32 0
  let main_v1 : IVec S4x1 32 := broadcastInDim S4x1 ![0] bcast_S4_S4x1_0 main_v0
  let main_v2 : IVec S1x512 32 := broadcastInDim S1x512 ![1] bcast_S512_S1x512_1 main_arg1
  let main_v3 : IVec S4x512 32 := broadcastInDim S4x512 ![0, 1] bcast_S1x512_S4x512_0_1 main_v2
  let main_v4 : IVec S4x512 32 := broadcastInDim S4x512 ![0, 1] bcast_S4x1_S4x512_0_1 main_v1
  let main_v5 : IVec S4x512 1 := cmpi .eq main_v3 main_v4
  let main_v6 : IVec S4x512 32 := (extui 32 · natLt_1_32) main_v5
  let main_c : IVec S_ 32 := constantI S_ 32 0#32
  let main_v7 : IVec S4 32 := (fun x v => Host.reduce IntOp.addi x v reducesTo_S4x512_S4_d1 h_S_) main_v6 main_c
  let main_c_0 : IVec S_ 32 := constantI S_ 32 160#32
  let main_v8 : IVec S4 32 := broadcastInDim S4 ![] bcast_S_S4 main_c_0
  let main_v9 : IVec S4 1 := cmpi .sle main_v7 main_v8
  main_v9
-- ==== Pre_rows_fit_ReferenceIdeal.lean ====
abbrev S2048x256 : Shape := ⟨2, ![2048, 256]⟩
abbrev S2048 : Shape := ⟨1, ![2048]⟩
abbrev S4 : Shape := ⟨1, ![4]⟩
abbrev S4x1 : Shape := ⟨2, ![4, 1]⟩
abbrev S1x2048 : Shape := ⟨2, ![1, 2048]⟩
abbrev S4x2048 : Shape := ⟨2, ![4, 2048]⟩
abbrev S_ : Shape := ⟨0, ![]⟩

class Facts : Prop where
  bcast_S4_S4x1_0 : S4.BroadcastsInDim S4x1 (![0] : Fin 1 → Fin S4x1.rank)
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  natLt_1_32 : 1 < 32
  reducesTo_S4x2048_S4_d1 : S4x2048.ReducesTo [1] S4
  h_S_ : 0 < S_.numel
  bcast_S_S4 : S_.BroadcastsInDim S4 (![] : Fin 0 → Fin S4.rank)

variable [Facts]

def fn {F : FTy → Type} [FloatOps F] (main_arg0 : FVec F S2048x256 .bf16) (main_arg1 : IVec S2048 32) : IVec S4 1 :=
  let main_v0 : IVec S4 32 := iotaInDim S4 32 0
  let main_v1 : IVec S4x1 32 := broadcastInDim S4x1 ![0] bcast_S4_S4x1_0 main_v0
  let main_v2 : IVec S1x2048 32 := broadcastInDim S1x2048 ![1] bcast_S2048_S1x2048_1 main_arg1
  let main_v3 : IVec S4x2048 32 := broadcastInDim S4x2048 ![0, 1] bcast_S1x2048_S4x2048_0_1 main_v2
  let main_v4 : IVec S4x2048 32 := broadcastInDim S4x2048 ![0, 1] bcast_S4x1_S4x2048_0_1 main_v1
  let main_v5 : IVec S4x2048 1 := cmpi .eq main_v3 main_v4
  let main_v6 : IVec S4x2048 32 := (extui 32 · natLt_1_32) main_v5
  let main_c : IVec S_ 32 := constantI S_ 32 0#32
  let main_v7 : IVec S4 32 := (fun x v => Host.reduce IntOp.addi x v reducesTo_S4x2048_S4_d1 h_S_) main_v6 main_c
  let main_c_0 : IVec S_ 32 := constantI S_ 32 160#32
  let main_v8 : IVec S4 32 := broadcastInDim S4 ![] bcast_S_S4 main_c_0
  let main_v9 : IVec S4 1 := cmpi .sle main_v7 main_v8
  main_v9
-- ==== Kernel.lean ====
abbrev S512x256 : Shape := ⟨2, ![512, 256]⟩
abbrev S512 : Shape := ⟨1, ![512]⟩
abbrev S4x1x512 : Shape := ⟨3, ![4, 1, 512]⟩
abbrev S4x160x256 : Shape := ⟨3, ![4, 160, 256]⟩
abbrev S3 : Shape := ⟨1, ![3]⟩
abbrev S4 : Shape := ⟨1, ![4]⟩
abbrev S_ : Shape := ⟨0, ![]⟩
abbrev S1x512 : Shape := ⟨2, ![1, 512]⟩
abbrev S1x1x512 : Shape := ⟨3, ![1, 1, 512]⟩
abbrev S1 : Shape := ⟨1, ![1]⟩
abbrev S4x512 : Shape := ⟨2, ![4, 512]⟩
abbrev S512x512 : Shape := ⟨2, ![512, 512]⟩
abbrev S160x512 : Shape := ⟨2, ![160, 512]⟩
abbrev S160x256 : Shape := ⟨2, ![160, 256]⟩
abbrev S1x160x256 : Shape := ⟨3, ![1, 160, 256]⟩
abbrev S512x160 : Shape := ⟨2, ![512, 160]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S512, .i32⟩
  | .hbm, ⟨2, _⟩ => ⟨S512x256, .f32⟩
  | .local _ .vmem, ⟨0, _⟩ => ⟨S512x256, .bf16⟩
  | .local _ .vmem, ⟨1, _⟩ => ⟨S512, .i32⟩
  | .local _ .vmem, ⟨2, _⟩ => ⟨S512x256, .f32⟩
  | .local _ .vmem, ⟨3, _⟩ => ⟨S4x1x512, .i32⟩
  | .local _ .vmem, ⟨4, _⟩ => ⟨S4x160x256, .bf16⟩
  | .local _ .vmem, ⟨5, _⟩ => ⟨S4x160x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_5 : BitVec 32 := 16#32
  let v12 : BitVec 32 := Scalar.muli v2 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v20 : BitVec 32 := Scalar.muli v2 c16_i32_11
  let v21 : BitVec 32 := Scalar.addi c0_i32_12 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v28 : BitVec 32 := Scalar.muli v2 c16_i32_17
  let v29 : BitVec 32 := Scalar.addi c0_i32_18 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v37 : Index := Scalar.indexCast v8
  let c0_22 : Index := 0#32
  let c0_23 : Index := 0#32
  ![v37.toNat, 0, 0]
def k0_off2 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_31 : BitVec 32 := 0#32
  let c0_i32_32 : BitVec 32 := 0#32
  ![v8.toNat, 0, 0]
def k0_dev4 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v43 : BitVec 32 := Scalar.muli v2 c16_i32_27
  let v44 : BitVec 32 := Scalar.addi c0_i32_28 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v45 : BitVec 32 := Scalar.muli v5 c4_i32_29
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v41 : BitVec 32 := Scalar.addi v8 c1_i32_24
  let c4_i32_25 : BitVec 32 := 4#32
  let v42 : BitVec 32 := Scalar.remsi v41 c4_i32_25
  let c1_i32_30 : BitVec 32 := 1#32
  let v47 : BitVec 32 := Scalar.muli v42 c1_i32_30
  let v48 : BitVec 32 := Scalar.addi v46 v47
  v48.toNat
def k0_dev5 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v59 : BitVec 32 := Scalar.muli v2 c16_i32_38
  let v60 : BitVec 32 := Scalar.addi c0_i32_39 v59
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v61 : BitVec 32 := Scalar.muli v5 c4_i32_40
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_35 : BitVec 32 := 2#32
  let v57 : BitVec 32 := Scalar.addi v8 c2_i32_35
  let c4_i32_36 : BitVec 32 := 4#32
  let v58 : BitVec 32 := Scalar.remsi v57 c4_i32_36
  let c1_i32_41 : BitVec 32 := 1#32
  let v63 : BitVec 32 := Scalar.muli v58 c1_i32_41
  let v64 : BitVec 32 := Scalar.addi v62 v63
  v64.toNat
def k0_dev6 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v75 : BitVec 32 := Scalar.muli v2 c16_i32_49
  let v76 : BitVec 32 := Scalar.addi c0_i32_50 v75
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v77 : BitVec 32 := Scalar.muli v5 c4_i32_51
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_46 : BitVec 32 := 3#32
  let v73 : BitVec 32 := Scalar.addi v8 c3_i32_46
  let c4_i32_47 : BitVec 32 := 4#32
  let v74 : BitVec 32 := Scalar.remsi v73 c4_i32_47
  let c1_i32_52 : BitVec 32 := 1#32
  let v79 : BitVec 32 := Scalar.muli v74 c1_i32_52
  let v80 : BitVec 32 := Scalar.addi v78 v79
  v80.toNat
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_92 : BitVec 32 := 0#32
  let c0_i32_93 : BitVec 32 := 0#32
  ![v8.toNat, 0, 0]
def k0_off5 (d0 : Dev nD) (c1_i32_85 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v175 : BitVec 32 := Scalar.addi v8 c1_i32_85
  let c4_i32_86 : BitVec 32 := 4#32
  let v176 : BitVec 32 := Scalar.remsi v175 c4_i32_86
  let c0_i32_94 : BitVec 32 := 0#32
  let c0_i32_95 : BitVec 32 := 0#32
  ![v176.toNat, 0, 0]
def k0_dev7 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v177 : BitVec 32 := Scalar.muli v2 c16_i32_88
  let v178 : BitVec 32 := Scalar.addi c0_i32_89 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_90 : BitVec 32 := 4#32
  let v179 : BitVec 32 := Scalar.muli v5 c4_i32_90
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v175 : BitVec 32 := Scalar.addi v8 c1_i32_85
  let c4_i32_86 : BitVec 32 := 4#32
  let v176 : BitVec 32 := Scalar.remsi v175 c4_i32_86
  let c1_i32_91 : BitVec 32 := 1#32
  let v181 : BitVec 32 := Scalar.muli v176 c1_i32_91
  let v182 : BitVec 32 := Scalar.addi v180 v181
  v182.toNat
def k0_dev8 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v193 : BitVec 32 := Scalar.muli v2 c16_i32_99
  let v194 : BitVec 32 := Scalar.addi c0_i32_100 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v195 : BitVec 32 := Scalar.muli v5 c4_i32_101
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_96 : BitVec 32 := 2#32
  let v191 : BitVec 32 := Scalar.addi v8 c2_i32_96
  let c4_i32_97 : BitVec 32 := 4#32
  let v192 : BitVec 32 := Scalar.remsi v191 c4_i32_97
  let c1_i32_102 : BitVec 32 := 1#32
  let v197 : BitVec 32 := Scalar.muli v192 c1_i32_102
  let v198 : BitVec 32 := Scalar.addi v196 v197
  v198.toNat
def k0_dev9 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_110 : BitVec 32 := 16#32
  let v209 : BitVec 32 := Scalar.muli v2 c16_i32_110
  let v210 : BitVec 32 := Scalar.addi c0_i32_111 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v211 : BitVec 32 := Scalar.muli v5 c4_i32_112
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_107 : BitVec 32 := 3#32
  let v207 : BitVec 32 := Scalar.addi v8 c3_i32_107
  let c4_i32_108 : BitVec 32 := 4#32
  let v208 : BitVec 32 := Scalar.remsi v207 c4_i32_108
  let c1_i32_113 : BitVec 32 := 1#32
  let v213 : BitVec 32 := Scalar.muli v208 c1_i32_113
  let v214 : BitVec 32 := Scalar.addi v212 v213
  v214.toNat
def k0_off6 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v223 : Index := Scalar.indexCast v8
  let c0_118 : Index := 0#32
  let c0_119 : Index := 0#32
  ![v223.toNat, 0, 0]
def k0_off7 (d0 : Dev nD) (c1_i32_122 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.subi v8 c1_i32_122
  let c4_i32_123 : BitVec 32 := 4#32
  let v231 : BitVec 32 := Scalar.addi v230 c4_i32_123
  let c4_i32_124 : BitVec 32 := 4#32
  let v232 : BitVec 32 := Scalar.remsi v231 c4_i32_124
  ![v232.toNat]
def k0_off8 (d0 : Dev nD) (c1_i32_122 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v230 : BitVec 32 := Scalar.subi v8 c1_i32_122
  let c4_i32_123 : BitVec 32 := 4#32
  let v231 : BitVec 32 := Scalar.addi v230 c4_i32_123
  let c4_i32_124 : BitVec 32 := 4#32
  let v232 : BitVec 32 := Scalar.remsi v231 c4_i32_124
  let c0_i32_130 : BitVec 32 := 0#32
  let c0_i32_131 : BitVec 32 := 0#32
  ![v232.toNat, 0, 0]
def k0_off9 (d0 : Dev nD) (c1_i32_162 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v283 : BitVec 32 := Scalar.subi v8 c1_i32_162
  let c4_i32_163 : BitVec 32 := 4#32
  let v284 : BitVec 32 := Scalar.addi v283 c4_i32_163
  let c4_i32_164 : BitVec 32 := 4#32
  let v285 : BitVec 32 := Scalar.remsi v284 c4_i32_164
  let c0_i32_170 : BitVec 32 := 0#32
  let c0_i32_171 : BitVec 32 := 0#32
  ![v285.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x256 : Shape := ⟨2, ![2048, 256]⟩
abbrev S2048 : Shape := ⟨1, ![2048]⟩
abbrev S_ : Shape := ⟨0, ![]⟩
abbrev S2048x1 : Shape := ⟨2, ![2048, 1]⟩
abbrev S4 : Shape := ⟨1, ![4]⟩
abbrev S4x1 : Shape := ⟨2, ![4, 1]⟩
abbrev S1x2048 : Shape := ⟨2, ![1, 2048]⟩
abbrev S4x2048 : Shape := ⟨2, ![4, 2048]⟩
abbrev S512 : Shape := ⟨1, ![512]⟩
abbrev S1x512 : Shape := ⟨2, ![1, 512]⟩
abbrev S4x512 : Shape := ⟨2, ![4, 512]⟩
abbrev S4x512x1 : Shape := ⟨3, ![4, 512, 1]⟩
abbrev S4x512x256 : Shape := ⟨3, ![4, 512, 256]⟩

abbrev nBuf : Space → Nat
  | .hbm => 60
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x256, .bf16⟩
  | .hbm, ⟨14, _⟩ => ⟨S4, .i32⟩
  | .hbm, ⟨15, _⟩ => ⟨S4x1, .i32⟩
  | .hbm, ⟨16, _⟩ => ⟨S1x2048, .i32⟩
  | .hbm, ⟨17, _⟩ => ⟨S4x2048, .i32⟩
  | .hbm, ⟨18, _⟩ => ⟨S4x2048, .i32⟩
  | .hbm, ⟨19, _⟩ => ⟨S4x2048, .i1⟩
  | .hbm, ⟨20, _⟩ => ⟨S4x2048, .i32⟩
  | .hbm, ⟨21, _⟩ => ⟨S_, .i32⟩
  | .hbm, ⟨22, _⟩ => ⟨S4, .i32⟩
  | .hbm, ⟨23, _⟩ => ⟨S1x2048, .i32⟩
  | .hbm, ⟨24, _⟩ => ⟨S4x2048, .i32⟩
  | .hbm, ⟨25, _⟩ => ⟨S4x2048, .i32⟩
  | .hbm, ⟨26, _⟩ => ⟨S4x2048, .i1⟩
  | .hbm, ⟨27, _⟩ => ⟨S4x2048, .i32⟩
  | .hbm, ⟨28, _⟩ => ⟨S_, .i32⟩
  | .hbm, ⟨29, _⟩ => ⟨S4, .i32⟩
  | .hbm, ⟨30, _⟩ => ⟨S512, .i32⟩
  | .hbm, ⟨31, _⟩ => ⟨S1x512, .i32⟩
  | .hbm, ⟨32, _⟩ => ⟨S4x1, .i32⟩
  | .hbm, ⟨33, _⟩ => ⟨S4x512, .i32⟩
  | .hbm, ⟨34, _⟩ => ⟨S4x512, .i32⟩
  | .hbm, ⟨35, _⟩ => ⟨S4x512, .i32⟩
  | .hbm, ⟨36, _⟩ => ⟨S_, .i32⟩
  | .hbm, ⟨37, _⟩ => ⟨S4x512, .i32⟩
  | .hbm, ⟨38, _⟩ => ⟨S4x512, .i32⟩
  | .hbm, ⟨39, _⟩ => ⟨S_, .i32⟩
  | .hbm, ⟨40, _⟩ => ⟨S4x512, .i32⟩
  | .hbm, ⟨41, _⟩ => ⟨S4x512, .i1⟩
  | .hbm, ⟨42, _⟩ => ⟨S_, .i32⟩
  | .hbm, ⟨43, _⟩ => ⟨S4x512, .i32⟩
  | .hbm, ⟨44, _⟩ => ⟨S4x512, .i32⟩
  | .hbm, ⟨45, _⟩ => ⟨S4x512, .i32⟩
  | .hbm, ⟨46, _⟩ => ⟨S4x512x1, .i32⟩
  | .hbm, ⟨47, _⟩ => ⟨S4x512x256, .bf16⟩
  | .hbm, ⟨48, _⟩ => ⟨S4x1, .i32⟩
  | .hbm, ⟨49, _⟩ => ⟨S4x512, .i32⟩
  | .hbm, ⟨50, _⟩ => ⟨S4x512, .i32⟩
  | .hbm, ⟨51, _⟩ => ⟨S4x512, .i1⟩
  | .hbm, ⟨52, _⟩ => ⟨S4x512x1, .i1⟩
  | .hbm, ⟨53, _⟩ => ⟨S_, .i32⟩
  | .hbm, ⟨54, _⟩ => ⟨S_, .bf16⟩
  | .hbm, ⟨55, _⟩ => ⟨S4x512x256, .i1⟩
  | .hbm, ⟨56, _⟩ => ⟨S4x512x256, .bf16⟩
  | .hbm, ⟨57, _⟩ => ⟨S4x512x256, .bf16⟩
  | .hbm, ⟨58, _⟩ => ⟨S2048x256, .bf16⟩
  | .hbm, ⟨59, _⟩ => ⟨S2048x256, .f32⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Slots.lean ====
/-
# Buffers of four slots

The kernel's three scratch buffers have four slots along their first axis, one per device of a group.
Here: the set of a slot's indices, the contents assembled from four slots, and the unit rectangles
that cover one slot.
-/
module

public import Idealize.ShloMosaic.Shape
public import Idealize.ShloMosaic.Signature

@[expose] public section

namespace Cert.Slots

open Idealize.ShloMosaic

/-- A buffer of four slots of `a × b` elements, and one slot kept with its leading axis. -/
abbrev Four (a b : ℕ) : Shape := ⟨3, ![4, a, b]⟩
abbrev One (a b : ℕ) : Shape := ⟨3, ![1, a, b]⟩

variable {a b : ℕ} {α : Type}

/-- The place of an index inside its slot. -/
def place (i : (Four a b).Idx) : (One a b).Idx := fun x => match x with
  | 0 => (0 : Fin 1)
  | 1 => (i 1 : Fin a)
  | 2 => (i 2 : Fin b)

/-- The index of slot `k` at the place `j`. -/
def put (k : Fin 4) (j : (One a b).Idx) : (Four a b).Idx := fun x => match x with
  | 0 => (k : Fin 4)
  | 1 => (j 1 : Fin a)
  | 2 => (j 2 : Fin b)

/-- The slot an index lies in. -/
def slotOf (i : (Four a b).Idx) : Fin 4 := i 0

@[simp] theorem slotOf_put (k : Fin 4) (j : (One a b).Idx) : slotOf (put k j) = k := rfl

@[simp] theorem place_put (k : Fin 4) (j : (One a b).Idx) : place (put k j) = j := by
  funext x
  match x with
  | 0 => exact (Subsingleton.elim (α := Fin 1) _ _)
  | 1 => rfl
  | 2 => rfl

theorem put_place (i : (Four a b).Idx) : put (slotOf i) (place i) = i := by
  funext x
  match x with
  | 0 => rfl
  | 1 => rfl
  | 2 => rfl

/-- The whole buffer's contents, slot by slot. -/
def asm (blk : Fin 4 → (One a b).Idx → α) : (Four a b).Idx → α := fun i => blk (slotOf i) (place i)

@[simp] theorem asm_put (blk : Fin 4 → (One a b).Idx → α) (k : Fin 4) (j : (One a b).Idx) : asm blk (put k j) = blk k j := by
  unfold asm; rw [slotOf_put, place_put]

/-- The indices of slot `k`. -/
def slot (k : Fin 4) : Finset (Four a b).Idx := Finset.univ.filter fun i => slotOf i = k

theorem mem_slot {k : Fin 4} {i : (Four a b).Idx} : i ∈ slot k ↔ slotOf i = k := by simp [slot]

theorem exists_put {k : Fin 4} {i : (Four a b).Idx} (h : i ∈ slot k) : ∃ j, i = put k j :=
  ⟨place i, by rw [← mem_slot.mp h, put_place]⟩

theorem disjoint_slot {k k' : Fin 4} (h : k ≠ k') : Disjoint (slot k : Finset (Four a b).Idx) (slot k') := by
  rw [Finset.disjoint_left]
  intro i hi hi'
  exact h ((mem_slot.mp hi).symm.trans (mem_slot.mp hi'))

/-- Four distinct slots make the buffer. -/
theorem slots_univ {k₀ k₁ k₂ k₃ : Fin 4} (h : ∀ k : Fin 4, k = k₀ ∨ k = k₁ ∨ k = k₂ ∨ k = k₃) :
    (slot k₀ ∪ (slot k₁ ∪ (slot k₂ ∪ slot k₃)) : Finset (Four a b).Idx) = Finset.univ := by
  ext i
  simp only [Finset.mem_union, mem_slot, Finset.mem_univ, iff_true]
  exact h (slotOf i)

/-- The unit rectangle at slot `k` covers the slot. -/
theorem rect_emb (off : Fin 3 → ℕ) (k : Fin 4) (h : off = ![k.val, 0, 0])
    (hb : ∀ x, off x + (One a b).size x ≤ (Four a b).size x) (j : (One a b).Idx) :
    (Rect.unit (s := Four a b) off (One a b).size hb).emb j = put k j := by
  subst h
  funext x
  apply Fin.ext
  match x with
  | 0 =>
    show k.val + 1 * (j 0 : Fin 1).val = k.val
    have : (j 0 : Fin 1).val = 0 := Nat.lt_one_iff.mp (show Fin 1 from j 0).isLt
    rw [this]; rfl
  | 1 => show 0 + 1 * (j 1 : Fin a).val = (j 1 : Fin a).val; omega
  | 2 => show 0 + 1 * (j 2 : Fin b).val = (j 2 : Fin b).val; omega

theorem rect_set (off : Fin 3 → ℕ) (k : Fin 4) (h : off = ![k.val, 0, 0])
    (hb : ∀ x, off x + (One a b).size x ≤ (Four a b).size x) :
    (Rect.unit (s := Four a b) off (One a b).size hb).set = slot k := by
  rw [← Rect.map_emb_univ]
  ext i
  simp only [Finset.mem_map, Finset.mem_univ, true_and]
  constructor
  · rintro ⟨j, rfl⟩; rw [rect_emb off k h hb]; exact mem_slot.mpr rfl
  · intro hi; obtain ⟨j, rfl⟩ := exists_put hi; exact ⟨j, rect_emb off k h hb j⟩

end Cert.Slots

end
-- ==== Proof.Ideal.Protocol.lean ====
/-
# The exchange between the four devices of a group

Device `c` has the place `zc c = c % 4` in its group of four. It talks to the three others of its
group, `fwd r c` (`r + 1` places on). Here: the semaphores, what every scratch slot holds, and the
schedule of duties of every semaphore (who pays it, how much, and what comes with the payment).

* the barrier of `b`: three duties, duty `r` paid by `bwd r b`; it brings the slots of the payer's
  receive buffers into which `b` is to write;
* the receive semaphore of `b` for the sender at place `j`: one duty, paid by that sender's
  transfer; it brings slot `j` of `b`'s buffer, filled;
* a send semaphore: one duty, paid by the transfer it counts; it brings the source back.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging's rounds and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The group of a device -/

/-- A device's place in its group. -/
def zc (c : Dev nD) : Fin 4 := ⟨c.val % 4, Nat.mod_lt _ (by decide)⟩

set_option backward.proofsInPublic true in
/-- The device of `c`'s group at place `j`. -/
def mem (c : Dev nD) (j : Fin 4) : Dev nD := ⟨4 * (c.val / 4) + j.val, by have := c.isLt; have := j.isLt; simp only [nD] at *; omega⟩

/-- The device `r + 1` places on in `c`'s group, and the one `r + 1` places back. -/
def fwd (r : Fin 3) (c : Dev nD) : Dev nD := mem c ⟨(c.val % 4 + (r.val + 1)) % 4, Nat.mod_lt _ (by decide)⟩
def bwd (r : Fin 3) (c : Dev nD) : Dev nD := mem c ⟨(c.val % 4 + (3 - r.val)) % 4, Nat.mod_lt _ (by decide)⟩

theorem bwd_fwd (r : Fin 3) (c : Dev nD) : bwd r (fwd r c) = c := by revert r c; decide +kernel
theorem fwd_bwd (r : Fin 3) (c : Dev nD) : fwd r (bwd r c) = c := by revert r c; decide +kernel
theorem bwd_eq_fwd (r : Fin 3) (c : Dev nD) : bwd r c = fwd r.rev c := by revert r c; decide +kernel
theorem zc_ne_fwd (r : Fin 3) (c : Dev nD) : zc c ≠ zc (fwd r c) := by revert r c; decide +kernel
theorem zc_ne_bwd (r : Fin 3) (c : Dev nD) : zc c ≠ zc (bwd r c) := by revert r c; decide +kernel
theorem mem_zc (c : Dev nD) : mem c (zc c) = c := by revert c; decide +kernel
theorem mem_fwd (r : Fin 3) (c : Dev nD) (j : Fin 4) : mem (fwd r c) j = mem c j := by revert r c j; decide +kernel
theorem zc_cases (c : Dev nD) (k : Fin 4) : k = zc c ∨ k = zc (fwd 0 c) ∨ k = zc (fwd 1 c) ∨ k = zc (fwd 2 c) := by
  revert c k; decide +kernel
theorem zc_cases_bwd (c : Dev nD) (k : Fin 4) : k = zc c ∨ k = zc (bwd 0 c) ∨ k = zc (bwd 1 c) ∨ k = zc (bwd 2 c) := by
  revert c k; decide +kernel
theorem zc_fwd_inj (c : Dev nD) (r r' : Fin 3) (h : zc (fwd r c) = zc (fwd r' c)) : r = r' := by
  revert c r r'; decide +kernel

/-- The group's rotation by `r + 1` places. -/
def turn (r : Fin 3) : Dev nD ≃ Dev nD := ⟨fwd r, bwd r, bwd_fwd r, fwd_bwd r⟩

/-! ## The semaphores -/

/-- The kernel's own DMA semaphores: sends of the destinations, their receipts, sends of the rows, their receipts. -/
abbrev Own : Type := Fin 3 ⊕ Fin 4 ⊕ Fin 3 ⊕ Fin 4
/-- Those and the barrier. -/
abbrev KIx : Type := Unit ⊕ Own

abbrev kBar : KIx := .inl ()
abbrev kDs (r : Fin 3) : KIx := .inr (.inl r)
abbrev kDr (j : Fin 4) : KIx := .inr (.inr (.inl j))
abbrev kBs (r : Fin 3) : KIx := .inr (.inr (.inr (.inl r)))
abbrev kBr (j : Fin 4) : KIx := .inr (.inr (.inr (.inr j)))

set_option backward.proofsInPublic true in
/-- The number of an own semaphore among the DMA semaphores. -/
def ownNo : Own → Fin 17
  | .inl r => ⟨3 + r.val, by omega⟩
  | .inr (.inl j) => ⟨6 + j.val, by omega⟩
  | .inr (.inr (.inl r)) => ⟨10 + r.val, by omega⟩
  | .inr (.inr (.inr j)) => ⟨13 + j.val, by omega⟩

abbrev barS : Sem sig := (SemArray.scalar (sig.barrier 0 rfl) : Sems sig S_).sem
abbrev osem : Own → SemLoc sig := fun o => .dma (ownNo o)
abbrev csem : KIx → SemLoc sig := fun | .inl _ => .reg barS | .inr o => osem o
abbrev kcell (ck : Dev nD × KIx) : GSem nD τ sig := ((ck.1 : Thread nD τ), csem ck.2)

set_option backward.proofsInPublic true in
/-- Which of the exchange's semaphores a DMA semaphore is. -/
def kindD (q : Fin 17) : Option KIx :=
  if q.val < 3 then none
  else if h : q.val < 6 then some (kDs ⟨q.val - 3, by omega⟩)
  else if h : q.val < 10 then some (kDr ⟨q.val - 6, by omega⟩)
  else if h : q.val < 13 then some (kBs ⟨q.val - 10, by omega⟩)
  else some (kBr ⟨q.val - 13, by omega⟩)

def kind : SemLoc sig → Option KIx
  | .reg _ => some kBar
  | .dma q => kindD q

theorem kindD_ownNo (o : Own) : kindD (ownNo o) = some (.inr o) := by revert o; decide +kernel
theorem kind_csem (k : KIx) : kind (csem k) = some k := by
  rcases k with _ | o
  · rfl
  · exact kindD_ownNo o
theorem kindD_stage (q : Fin 17) (h : q.val < 3) : kindD q = none := by unfold kindD; rw [if_pos h]

/-! ## The memrefs -/

abbrev xM : Memref sig .tc .vmem S512x256 .bf16 := Memref.whole cc0_stg0_0
abbrev dM : Memref sig .tc .vmem S512 .i32 := Memref.whole cc0_stg1_0
abbrev oM : Memref sig .tc .vmem S512x256 .f32 := Memref.whole cc0_stg2_0
abbrev dgM : Memref sig .tc .vmem S4x1x512 .i32 := Memref.whole cc0_scratch0
abbrev sbM : Memref sig .tc .vmem S4x160x256 .bf16 := Memref.whole cc0_scratch1
abbrev rbM : Memref sig .tc .vmem S4x160x256 .bf16 := Memref.whole cc0_scratch2

/-- The credit of a transfer of one slot of destinations, and of one slot of rows. -/
def Nd : ℕ := sig.dmaCredit .tc (Kind.tc.table .vmem) dgM.view.buf S1x512 .i32
def Nb : ℕ := sig.dmaCredit .tc (Kind.tc.table .vmem) rbM.view.buf S160x256 .bf16
theorem Nd_pos : 0 < Nd := sig.dmaCredit_pos _ _ _ S1x512 .i32 (by decide)
theorem Nb_pos : 0 < Nb := sig.dmaCredit_pos _ _ _ S160x256 .bf16 (by decide)

/-! ## Contents -/

/-- A device's rows and destinations as staged. -/
def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

/-- The block of rows a device with rows `x` and destinations `d` packs for the device at place `k`. -/
def packed (x : Vec F S512x256 .bf16) (d : Vec F S512 .i32) : Fin 4 → S1x160x256.Idx → Elt F .bf16
  | 0 => k0_pay7 (k0_pay2 x) (k0_pay3 d) (k0_pay4 d) (k0_pay5)
  | 1 => k0_pay8 (k0_pay2 x) (k0_pay3 d) (k0_pay4 d) (k0_pay5)
  | 2 => k0_pay10 (k0_pay2 x) (k0_pay3 d) (iota .tc S160x512 32 [0] iota_S160x512_d0_w32) (k0_pay9 (k0_pay4 (F := F) d) (k0_pay5))
  | 3 => k0_pay11 (k0_pay2 x) (k0_pay3 d) (k0_pay6 (k0_pay4 (F := F) d) (k0_pay5)) (iota .tc S160x512 32 [0] iota_S160x512_d0_w32)

/-- What the three scratch buffers of device `c` hold once filled: slot `k` of the destinations is that of the
    group's device at place `k`; slot `k` of the send buffer the block for that device; slot `k` of the receive
    buffer the block that device packed for `c`. -/
def DG (c : Dev nD) : S4x1x512.Idx → Elt F .i32 := asm fun k => k0_pay1 (dstg m ρ (mem c k))
def SB (c : Dev nD) : S4x160x256.Idx → Elt F .bf16 := asm fun k => packed (xstg m ρ c) (dstg m ρ c) k
def RB (c : Dev nD) : S4x160x256.Idx → Elt F .bf16 :=
  asm fun k => packed (xstg m ρ (mem c k)) (dstg m ρ (mem c k)) (zc c)

/-- Slot `k` of each scratch buffer of device `c`, owned at a share. -/
def dgPts (c : Dev nD) (k : Fin 4) (q : PosShare TreeShare) (f : S4x1x512.Idx → Elt F .i32) : sProp 𝕄 :=
  ((c : Thread nD τ).loc cc0_scratch0) ↦[(slot k : Finset S4x1x512.Idx)]{q} f
def sbPts (c : Dev nD) (k : Fin 4) (f : S4x160x256.Idx → Elt F .bf16) : sProp 𝕄 :=
  ((c : Thread nD τ).loc cc0_scratch1) ↦[(slot k : Finset S4x160x256.Idx)]{fullShare} f
def rbPts (c : Dev nD) (k : Fin 4) (f : S4x160x256.Idx → Elt F .bf16) : sProp 𝕄 :=
  ((c : Thread nD τ).loc cc0_scratch2) ↦[(slot k : Finset S4x160x256.Idx)]{fullShare} f

omit [FloatOps F] in
instance dgPts_storable (c : Dev nD) (k q f) : BI.Storable (upEmb : UEmb _ 𝕄) (dgPts (F := F) c k q f) := by unfold dgPts; infer_instance
omit [FloatOps F] in
instance sbPts_storable (c : Dev nD) (k f) : BI.Storable (upEmb : UEmb _ 𝕄) (sbPts (F := F) c k f) := by unfold sbPts; infer_instance
omit [FloatOps F] in
instance rbPts_storable (c : Dev nD) (k f) : BI.Storable (upEmb : UEmb _ 𝕄) (rbPts (F := F) c k f) := by unfold rbPts; infer_instance

/-- The left half of a slot of destinations is cut in three, one part lent to each transfer. -/
def lent : Fin 3 → PosShare TreeShare
  | 0 => fullShare.left.left
  | 1 => fullShare.left.right.left
  | 2 => fullShare.left.right.right

/-! ## The schedule -/

/-- The slots at place `j` of device `c`'s two receive buffers, at any contents. -/
def handed (c : Dev nD) (j : Fin 4) : sProp 𝕄 := iprop((∃ f, dgPts c j fullShare f) ∗ ∃ f, rbPts c j f)

omit [FloatOps F] in
instance handed_storable (c : Dev nD) (j) : BI.Storable (upEmb : UEmb _ 𝕄) (handed (F := F) c j) := by unfold handed; infer_instance

/-- The duties of a semaphore of device `c`, their amounts, and what comes with them. -/
def kDuties (c : Dev nD) : Option KIx → Finset (Fin 3)
  | some (.inl _) => Finset.univ
  | some (.inr (.inl _)) => {0}
  | some (.inr (.inr (.inl j))) => if j = zc c then ∅ else {0}
  | some (.inr (.inr (.inr (.inl _)))) => {0}
  | some (.inr (.inr (.inr (.inr j)))) => if j = zc c then ∅ else {0}
  | none => ∅
def kAmount : Option KIx → ℕ
  | some (.inl _) => 1
  | some (.inr (.inl _)) => Nd
  | some (.inr (.inr (.inl _))) => Nd
  | some (.inr (.inr (.inr _))) => Nb
  | none => 1
def kPay (c : Dev nD) (d : Fin 3) : Option KIx → sProp 𝕄
  | some (.inl _) => handed (bwd d c) (zc c)
  | some (.inr (.inl r)) => dgPts c (zc c) (lent r) (DG m ρ c)
  | some (.inr (.inr (.inl j))) => dgPts c j fullShare (DG m ρ c)
  | some (.inr (.inr (.inr (.inl r)))) => sbPts c (zc (fwd r c)) (SB m ρ c)
  | some (.inr (.inr (.inr (.inr j)))) => rbPts c j (RB m ρ c)
  | none => iprop(emp)

theorem kAmount_pos (k : Option KIx) : 0 < kAmount k := by
  rcases k with _ | (_ | _ | _ | _ | _)
  · exact Nat.one_pos
  · exact Nat.one_pos
  · exact Nd_pos
  · exact Nd_pos
  · exact Nb_pos
  · exact Nb_pos

def sched : Rounds.Schedule (GSem nD τ sig) (Fin 3) 𝕄 where
  duties g r := if r = 0 ∧ g.1.2 = .tc then kDuties g.1.1 (kind g.2) else ∅
  unitless _ := False
  amount g _ _ := kAmount (kind g.2)
  payload g _ d := kPay m ρ g.1.1 d (kind g.2)
  amount_pos g _ _ _ := kAmount_pos _

instance sched_payload_storable (g : GSem nD τ sig) (r : ℕ) (d : Fin 3) :
    BI.Storable (upEmb : UEmb _ 𝕄) ((sched (F := F) m ρ).payload g r d) := by
  show BI.Storable upEmb (kPay m ρ g.1.1 d (kind g.2))
  rcases kind g.2 with _ | (_ | _ | _ | _ | _) <;> (unfold kPay; infer_instance)

section Sched
variable (c : Dev nD)

theorem duties_cell (k : KIx) : (sched (F := F) m ρ).duties (kcell (c, k)) 0 = kDuties c (some k) := by
  dsimp only [sched]; rw [if_pos ⟨rfl, rfl⟩, kind_csem]
theorem duties_later (g : GSem nD τ sig) : ∀ r, 1 ≤ r → (sched (F := F) m ρ).duties g r = ∅ :=
  fun r hr => by dsimp only [sched]; rw [if_neg fun h => by omega]
theorem amount_cell (k : KIx) (r : ℕ) (d : Fin 3) : (sched (F := F) m ρ).amount (kcell (c, k)) r d = kAmount (some k) := by
  dsimp only [sched]; rw [kind_csem]
theorem payload_cell (k : KIx) (r : ℕ) (d : Fin 3) : (sched (F := F) m ρ).payload (kcell (c, k)) r d = kPay m ρ c d (some k) := by
  dsimp only [sched]; rw [kind_csem]

/-- A semaphore with the one duty `0` expects its amount, and its round brings that duty's payload. -/
theorem expect_one (k : KIx) (h : kDuties c (some k) = {0}) : (sched (F := F) m ρ).expect (kcell (c, k)) 0 = kAmount (some k) := by
  unfold Schedule.expect Schedule.amountOf
  rw [duties_cell, h, Finset.sum_singleton, amount_cell]
theorem rest_one (k : KIx) (h : kDuties c (some k) = {0}) :
    bigSep ((sched (F := F) m ρ).duties (kcell (c, k)) 0 \ ∅) (fun d => (sched (F := F) m ρ).payload (kcell (c, k)) 0 d) = kPay m ρ c 0 (some k) := by
  rw [Finset.sdiff_empty, duties_cell, h, bigSep_singleton, payload_cell]

theorem bigSep3 (Φ : Fin 3 → sProp 𝕄) : bigSep Finset.univ Φ = iprop(Φ 0 ∗ Φ 1 ∗ Φ 2) :=
  bigSep_univ_eq_bigSepL [0, 1, 2] (by decide) (by decide) Φ

/-- The barrier expects three units, and its round brings the slots of the three others. -/
theorem expect_bar : (sched (F := F) m ρ).expect (kcell (c, kBar)) 0 = 3 := by
  unfold Schedule.expect Schedule.amountOf
  rw [duties_cell, Finset.sum_congr rfl fun d _ => amount_cell m ρ c kBar 0 d]
  rfl
theorem rest_bar : bigSep ((sched (F := F) m ρ).duties (kcell (c, kBar)) 0 \ ∅) (fun d => (sched (F := F) m ρ).payload (kcell (c, kBar)) 0 d)
    = iprop(handed (fwd 2 c) (zc c) ∗ handed (fwd 1 c) (zc c) ∗ handed (fwd 0 c) (zc c)) := by
  rw [Finset.sdiff_empty, duties_cell]
  show bigSep Finset.univ _ = _
  rw [bigSep3, payload_cell, payload_cell, payload_cell]
  unfold kPay
  rw [bwd_eq_fwd, bwd_eq_fwd, bwd_eq_fwd]
  rfl

end Sched

/-! ## What is owed at launch; the levels -/

abbrev barOf (r : Fin 3) (c : Dev nD) : CellTallies nD τ sig Unit := tallyAt (kcell (fwd r c, kBar)) () 1
abbrev drOf (r : Fin 3) (c : Dev nD) : CellTallies nD τ sig Unit := tallyAt (kcell (fwd r c, kDr (zc c))) () Nd
abbrev brOf (r : Fin 3) (c : Dev nD) : CellTallies nD τ sig Unit := tallyAt (kcell (fwd r c, kBr (zc c))) () Nb

/-- What device `c` still owes, paying the barriers first, then the destinations, then the rows. -/
def oB2 (c : Dev nD) : CellTallies nD τ sig Unit := 0 + brOf 2 c
def oB1 (c : Dev nD) : CellTallies nD τ sig Unit := oB2 c + brOf 1 c
def oB0 (c : Dev nD) : CellTallies nD τ sig Unit := oB1 c + brOf 0 c
def oD2 (c : Dev nD) : CellTallies nD τ sig Unit := oB0 c + drOf 2 c
def oD1 (c : Dev nD) : CellTallies nD τ sig Unit := oD2 c + drOf 1 c
def oD0 (c : Dev nD) : CellTallies nD τ sig Unit := oD1 c + drOf 0 c
def oR2 (c : Dev nD) : CellTallies nD τ sig Unit := oD0 c + barOf 2 c
def oR1 (c : Dev nD) : CellTallies nD τ sig Unit := oR2 c + barOf 1 c
def O₀ (c : Dev nD) : CellTallies nD τ sig Unit := oR1 c + barOf 0 c

def L (g : GSem nD τ sig) : Finset Unit := if g.1.2 = .tc then {()} else ∅
/-- The barriers at level 1, the receipts at 2, all else at 0. -/
def kLev : Option KIx → ℕ
  | some (.inl _) => 1
  | some (.inr (.inl _)) => 0
  | some (.inr (.inr (.inl _))) => 2
  | some (.inr (.inr (.inr (.inl _)))) => 0
  | some (.inr (.inr (.inr (.inr _)))) => 2
  | none => 0
def lv (g : GSem nD τ sig) (_ : Unit) : ℕ := kLev (kind g.2)

theorem L_of_ne (g : GSem nD τ sig) (h : g.1.2 ≠ .tc) : L g = ∅ := if_neg h
theorem L_tc (c : Dev nD) (sm : SemLoc sig) : L ((c : Thread nD τ), sm) = {()} := if_pos rfl

/-- Everything a tally owes is on a core's semaphore above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_cell {n N : ℕ} (c : Dev nD) (k : KIx) (hk : n < kLev (some k)) : Above n (tallyAt (kcell (c, k)) () N) := fun g u hg => by
  rw [tallyAt_apply] at hg
  by_cases h : g = kcell (c, k) ∧ u = ()
  · rw [h.1]; refine ⟨rfl, ?_⟩; unfold lv; rw [kind_csem]; exact hk
  · rw [if_neg h] at hg; exact absurd hg (Nat.lt_irrefl 0)

theorem above_oD0 (c : Dev nD) : Above 1 (oD0 c) :=
  above_add (above_add (above_add (above_add (above_add (above_add (above_zero 1)
    (above_cell _ _ Nat.one_lt_two)) (above_cell _ _ Nat.one_lt_two)) (above_cell _ _ Nat.one_lt_two))
    (above_cell _ _ Nat.one_lt_two)) (above_cell _ _ Nat.one_lt_two)) (above_cell _ _ Nat.one_lt_two)
theorem above_mono {n n' : ℕ} (h : n' ≤ n) {O : CellTallies nD τ sig Unit} (hO : Above n O) : Above n' O :=
  fun g u hg => ⟨(hO g u hg).1, Nat.lt_of_le_of_lt h (hO g u hg).2⟩
theorem above_O₀ (c : Dev nD) : Above 0 (O₀ c) :=
  above_add (above_add (above_add (above_mono (Nat.zero_le 1) (above_oD0 c)) (above_cell _ _ (by decide))) (above_cell _ _ (by decide)))
    (above_cell _ _ (by decide))

/-- A core may wait on a semaphore whose level lies below everything it owes. -/
theorem mayWait (c : Dev nD) (sm : SemLoc sig) (n : ℕ) (O : CellTallies nD τ sig Unit) (hn : kLev (kind sm) ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## What the devices share, and what each starts from -/

/-- Every semaphore's invariant, at the names `K`, and that each is at its first round. -/
def records (K : Dev nD × KIx → ℕ) : sProp 𝕄 :=
  iprop((bigSep Finset.univ fun ck : Dev nD × KIx => cellInv ER (sched m ρ) (K ck) (kcell ck))
    ∗ bigSep Finset.univ fun ck : Dev nD × KIx => reached ER (kcell ck) 0)

instance records_persistent (K : Dev nD × KIx → ℕ) : BI.Persistent (records m ρ K) := by unfold records; infer_instance

theorem inv_of (K : Dev nD × KIx → ℕ) (c : Dev nD) (k : KIx) : records m ρ K ⊢ cellInv ER (sched m ρ) (K (c, k)) (kcell (c, k)) := by
  unfold records; iintro ⟨H, -⟩
  iapply (show (bigSep Finset.univ fun ck : Dev nD × KIx => (cellInv ER (sched m ρ) (K ck) (kcell ck) : sProp 𝕄)) ⊢ cellInv ER (sched m ρ) (K (c, k)) (kcell (c, k)) from
    bigSep_elim (Finset.mem_univ (c, k)))
  iexact H
theorem reached_of (K : Dev nD × KIx → ℕ) (c : Dev nD) (k : KIx) : records m ρ K ⊢ reached ER (kcell (c, k)) 0 := by
  unfold records; iintro ⟨-, H⟩
  iapply (show (bigSep Finset.univ fun ck : Dev nD × KIx => (reached ER (kcell ck) 0 : sProp 𝕄)) ⊢ reached ER (kcell (c, k)) 0 from
    bigSep_elim (Finset.mem_univ (c, k)))
  iexact H

/-- The tokens device `c` pays with, towards `fwd r c`. -/
def payTok (c : Dev nD) (r : Fin 3) : sProp 𝕄 :=
  iprop(dutyTok ER (kcell (fwd r c, kBar)) 0 r ∗ dutyTok ER (kcell (c, kDs r)) 0 0 ∗ dutyTok ER (kcell (fwd r c, kDr (zc c))) 0 0
    ∗ dutyTok ER (kcell (c, kBs r)) 0 0 ∗ dutyTok ER (kcell (fwd r c, kBr (zc c))) 0 0)

/-- The position of one of device `c`'s semaphores, before its round. -/
abbrev at₀ (c : Dev nD) (k : KIx) : sProp 𝕄 := atPos ER (kcell (c, k)) 0 ∅ 0
/-- The credit device `c` waits with on one of its semaphores. -/
abbrev crd (c : Dev nD) (k : KIx) (n : ℕ) : sProp 𝕄 := cred (tallyAt (kcell (c, k)) () n)

/-- What concerns the device `fwd r c` among what `c` holds: its tokens, and its own send and receive semaphores. -/
def side (c : Dev nD) (r : Fin 3) : sProp 𝕄 :=
  iprop(payTok c r ∗ (at₀ c (kDs r) ∗ at₀ c (kBs r) ∗ at₀ c (kDr (zc (bwd r c))) ∗ at₀ c (kBr (zc (bwd r c)))))
def credits (c : Dev nD) (r : Fin 3) : sProp 𝕄 := iprop(crd c (kDr (zc (bwd r c))) Nd ∗ crd c (kBr (zc (bwd r c))) Nb)
/-- What device `c` holds alone: its barrier's position, its two receive semaphores no one pays, and the three sides. -/
def linear (c : Dev nD) : sProp 𝕄 :=
  iprop(at₀ c kBar ∗ (at₀ c (kDr (zc c)) ∗ at₀ c (kBr (zc c))) ∗ side c 0 ∗ side c 1 ∗ side c 2)
def ghost (K : Dev nD × KIx → ℕ) (c : Dev nD) : sProp 𝕄 := iprop(records m ρ K ∗ linear c)
def start (c : Dev nD) : sProp 𝕄 :=
  iprop((∃ K, ghost m ρ K c) ∗ (crd c kBar 3 ∗ credits c 0 ∗ credits c 1 ∗ credits c 2) ∗ levAts L lv)

end Cert.KernelIdealProof

end
-- ==== Proof.Ideal.Access.lean ====
/-
# The scratch buffers slot by slot

What a load, a store and a transfer do on one slot of a scratch buffer, and how a buffer's four slots
are put together from parts.
-/
module

public import proofs.«01_k».proof.Proof.Ideal.Protocol

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the slices lie -/

theorem zfwd_val (c : Dev nD) (r : Fin 3) : (zc (fwd r c)).val = (c.val % 4 + r.val + 1) % 4 := by revert c r; decide +kernel
theorem zbwd_val (c : Dev nD) (r : Fin 3) : (zc (bwd r c)).val = (c.val % 4 + 3 - r.val) % 4 := by revert c r; decide +kernel

theorem off5_at (c : Dev nD) (r : Fin 3) : k0_off5 c (BitVec.ofNat 32 (1 + r.val)) = ![(zc (fwd r c)).val, 0, 0] := by rw [k0_off5_eq, zfwd_val]
theorem off7_at (c : Dev nD) (r : Fin 3) : k0_off7 c (BitVec.ofNat 32 (1 + r.val)) = ![(zc (bwd r c)).val] := by rw [k0_off7_eq, zbwd_val]

theorem dev_at (c : Dev nD) (r : Fin 3) (n : ℕ) (hn : n = 16 * (c.val / 16) + 4 * ((c.val / 4) % 4) + (((c.val % 4) + (r.val + 1)) % 4)) :
    n = (fwd r c).val := hn.trans (by clear hn; revert c r; decide +kernel)
theorem dev_eq (c : Dev nD) (r : Fin 3) {n : ℕ} (h : n < nD) (hn : n = 16 * (c.val / 16) + 4 * ((c.val / 4) % 4) + (((c.val % 4) + (r.val + 1)) % 4)) :
    (⟨n, h⟩ : Dev nD) = fwd r c := Fin.ext (dev_at c r n hn)

/-- One slot of each scratch buffer, as a transfer names it. -/
abbrev dgS (off : Fin 3 → ℕ) (hb : ∀ x, off x + S1x1x512.size x ≤ S4x1x512.size x) : Memref sig .tc .vmem S1x512 .i32 :=
  (dgM.slice (Rect.unit (s := S4x1x512) off S1x1x512.size hb) (fun _ => rfl)).squeeze S1x512 squeezes_S1x1x512_S1x512
abbrev sbS (off : Fin 3 → ℕ) (hb : ∀ x, off x + S1x160x256.size x ≤ S4x160x256.size x) : Memref sig .tc .vmem S160x256 .bf16 :=
  (sbM.slice (Rect.unit (s := S4x160x256) off S1x160x256.size hb) (fun _ => rfl)).squeeze S160x256 squeezes_S1x160x256_S160x256
abbrev rbS (off : Fin 3 → ℕ) (hb : ∀ x, off x + S1x160x256.size x ≤ S4x160x256.size x) : Memref sig .tc .vmem S160x256 .bf16 :=
  (rbM.slice (Rect.unit (s := S4x160x256) off S1x160x256.size hb) (fun _ => rfl)).squeeze S160x256 squeezes_S1x160x256_S160x256

section At
variable {off off' : Fin 3 → ℕ} {k k' : Fin 4} (h : off = ![k.val, 0, 0]) (h' : off' = ![k'.val, 0, 0])
include h

theorem dgS_set (hb) : (dgS off hb).view.set = slot k := by
  simp only [Memref.view_squeeze, View.set_reshape, Memref.view_slice, Memref.view_whole, View.set_slice_whole]
  exact rect_set off k h hb
theorem sbS_set (hb) : (sbS off hb).view.set = slot k := by
  simp only [Memref.view_squeeze, View.set_reshape, Memref.view_slice, Memref.view_whole, View.set_slice_whole]
  exact rect_set off k h hb
theorem rbS_set (hb) : (rbS off hb).view.set = slot k := by
  simp only [Memref.view_squeeze, View.set_reshape, Memref.view_slice, Memref.view_whole, View.set_slice_whole]
  exact rect_set off k h hb

theorem dgS_emb (hb) (y : S1x512.Idx) : (dgS off hb).view.emb y = put k (Shape.reshapeEquiv squeezes_S1x1x512_S1x512.numel_eq y) :=
  rect_emb off k h hb _
theorem sbS_emb (hb) (y : S160x256.Idx) : (sbS off hb).view.emb y = put k (Shape.reshapeEquiv squeezes_S1x160x256_S160x256.numel_eq y) :=
  rect_emb off k h hb _
theorem rbS_emb (hb) (y : S160x256.Idx) : (rbS off hb).view.emb y = put k (Shape.reshapeEquiv squeezes_S1x160x256_S160x256.numel_eq y) :=
  rect_emb off k h hb _

/-- A transfer from slot `k` to slot `k` of another device's destinations. -/
theorem dg_land (hb) (fd fs : S4x1x512.Idx → Elt F .i32) {i : S4x1x512.Idx} (hi : i ∈ (slot k : Finset S4x1x512.Idx)) :
    (dgS off hb).view.write (Elt F) fd ((dgS off hb).view.read (Elt F) fs) Finset.univ i = fs i := by
  obtain ⟨j, rfl⟩ := exists_put hi
  have e : (put k j : S4x1x512.Idx) = (dgS off hb).view.emb ((Shape.reshapeEquiv squeezes_S1x1x512_S1x512.numel_eq).symm j) := by
    rw [dgS_emb h, Equiv.apply_symm_apply]
  rw [e, View.write_emb_of_mem _ _ (Finset.mem_univ _), View.read_apply]
  rfl
include h' in
/-- A transfer from slot `k'` of the send buffer to slot `k` of a receive buffer. -/
theorem rb_land (hb hb') (fd fs : S4x160x256.Idx → Elt F .bf16) (j : S1x160x256.Idx) :
    (rbS off hb).view.write (Elt F) fd ((sbS off' hb').view.read (Elt F) fs) Finset.univ (put k j) = fs (put k' j) := by
  have e : (put k j : S4x160x256.Idx) = (rbS off hb).view.emb ((Shape.reshapeEquiv squeezes_S1x160x256_S160x256.numel_eq).symm j) := by
    rw [rbS_emb h, Equiv.apply_symm_apply]
  rw [e, View.write_emb_of_mem _ _ (Finset.mem_univ _), View.read_apply, sbS_emb h', Equiv.apply_symm_apply]
  rfl

/-! ## Loads and stores of one slot -/

theorem dg_cells (hb) : (dgM.view.setOn (Rect.unit (s := S4x1x512) off S1x1x512.size hb).toLoadRect.set : Finset S4x1x512.Idx) = slot k := by
  rw [← rect_set off k h hb]
  show Finset.map (View.whole cc0_scratch0).emb _ = _
  rw [View.emb_whole, Finset.map_refl]
theorem sb_cells (hb) : (sbM.view.setOn (Rect.unit (s := S4x160x256) off S1x160x256.size hb).toLoadRect.set : Finset S4x160x256.Idx) = slot k := by
  rw [← rect_set off k h hb]
  show Finset.map (View.whole cc0_scratch1).emb _ = _
  rw [View.emb_whole, Finset.map_refl]
theorem rb_cells (hb) : (rbM.view.setOn (Rect.unit (s := S4x160x256) off S1x160x256.size hb).toLoadRect.set : Finset S4x160x256.Idx) = slot k := by
  rw [← rect_set off k h hb]
  show Finset.map (View.whole cc0_scratch2).emb _ = _
  rw [View.emb_whole, Finset.map_refl]

theorem sb_read (hb) (f : S4x160x256.Idx → Elt F .bf16) :
    sbM.view.readAt (Elt F) (Rect.unit (s := S4x160x256) off S1x160x256.size hb).toLoadRect f = fun j => f (put k j) :=
  funext fun j => congrArg f (rect_emb off k h hb j)
theorem rb_read (hb) (f : S4x160x256.Idx → Elt F .bf16) :
    rbM.view.readAt (Elt F) (Rect.unit (s := S4x160x256) off S1x160x256.size hb).toLoadRect f = fun j => f (put k j) :=
  funext fun j => congrArg f (rect_emb off k h hb j)

theorem dg_stored (hb) : ((dgM.access (Rect.unit (s := S4x1x512) off S1x1x512.size hb)).setOn Finset.univ : Finset S4x1x512.Idx) = slot k := by
  rw [View.setOn_univ, ← rect_set off k h hb]; exact View.set_slice_whole _ _
theorem rb_stored (hb) : ((rbM.access (Rect.unit (s := S4x160x256) off S1x160x256.size hb)).setOn Finset.univ : Finset S4x160x256.Idx) = slot k := by
  rw [View.setOn_univ, ← rect_set off k h hb]; exact View.set_slice_whole _ _
theorem sb_stored (hb) : ((sbM.access (Rect.unit (s := S4x160x256) off S1x160x256.size hb)).setOn Finset.univ : Finset S4x160x256.Idx) = slot k := by
  rw [View.setOn_univ, ← rect_set off k h hb]; exact View.set_slice_whole _ _

theorem dg_write (hb) (f : S4x1x512.Idx → Elt F .i32) (w : S1x1x512.Idx → Elt F .i32) (j : S1x1x512.Idx) :
    (dgM.access (Rect.unit (s := S4x1x512) off S1x1x512.size hb)).write (Elt F) f w Finset.univ (put k j) = w j := by
  have e : (put k j : S4x1x512.Idx) = (dgM.access (Rect.unit (s := S4x1x512) off S1x1x512.size hb)).emb j := (rect_emb off k h hb j).symm
  rw [e, View.write_emb_of_mem _ _ (Finset.mem_univ _)]; rfl
theorem rb_write (hb) (f : S4x160x256.Idx → Elt F .bf16) (w : S1x160x256.Idx → Elt F .bf16) (j : S1x160x256.Idx) :
    (rbM.access (Rect.unit (s := S4x160x256) off S1x160x256.size hb)).write (Elt F) f w Finset.univ (put k j) = w j := by
  have e : (put k j : S4x160x256.Idx) = (rbM.access (Rect.unit (s := S4x160x256) off S1x160x256.size hb)).emb j := (rect_emb off k h hb j).symm
  rw [e, View.write_emb_of_mem _ _ (Finset.mem_univ _)]; rfl
theorem sb_write (hb) (f : S4x160x256.Idx → Elt F .bf16) (w : S1x160x256.Idx → Elt F .bf16) (i : S4x160x256.Idx) :
    (sbM.access (Rect.unit (s := S4x160x256) off S1x160x256.size hb)).write (Elt F) f w Finset.univ i = if slotOf i = k then w (place i) else f i := by
  by_cases hi : slotOf i = k
  · obtain ⟨j, rfl⟩ := exists_put (mem_slot.mpr hi)
    have e : (put k j : S4x160x256.Idx) = (sbM.access (Rect.unit (s := S4x160x256) off S1x160x256.size hb)).emb j := (rect_emb off k h hb j).symm
    rw [if_pos hi, place_put]
    conv_lhs => rw [e]
    rw [View.write_emb_of_mem _ _ (Finset.mem_univ _)]; rfl
  · rw [if_neg hi, View.write_of_not_mem]
    rw [sb_stored h]; exact fun h' => hi (mem_slot.mp h')

end At

/-! ## Four slots together -/

omit [FloatOps F] in
/-- Ownership of a buffer is ownership of its four slots. -/
theorem pts_four {ℓ : Loc nD τ sig} (q : PosShare TreeShare) (f : Buf (Elt F) ℓ) {S₀ S₁ S₂ S₃ : Finset (Idx ℓ)} (hu : S₀ ∪ (S₁ ∪ (S₂ ∪ S₃)) = Finset.univ)
    (h01 : Disjoint S₀ S₁) (h02 : Disjoint S₀ S₂) (h03 : Disjoint S₀ S₃) (h12 : Disjoint S₁ S₂) (h13 : Disjoint S₁ S₃) (h23 : Disjoint S₂ S₃) :
    (ℓ ↦{q} f : sProp 𝕄) = iprop((ℓ ↦[S₀]{q} f) ∗ (ℓ ↦[S₁]{q} f) ∗ (ℓ ↦[S₂]{q} f) ∗ ℓ ↦[S₃]{q} f) := by
  have join {I J : Finset (Idx ℓ)} (h : Disjoint I J) : (ℓ ↦[I ∪ J]{q} f : sProp 𝕄) = iprop((ℓ ↦[I]{q} f) ∗ ℓ ↦[J]{q} f) :=
    Entails.antisymm (pointsTo_union h).1 (pointsTo_union h).2
  rw [← hu, join (Finset.disjoint_union_right.mpr ⟨h01, Finset.disjoint_union_right.mpr ⟨h02, h03⟩⟩),
    join (Finset.disjoint_union_right.mpr ⟨h12, h13⟩), join h23]

/-- The slots of the group's four places, counted from a device's own place onwards, or backwards. -/
theorem places_fwd (c : Dev nD) : zc c ≠ zc (fwd 0 c) ∧ zc c ≠ zc (fwd 1 c) ∧ zc c ≠ zc (fwd 2 c)
    ∧ zc (fwd 0 c) ≠ zc (fwd 1 c) ∧ zc (fwd 0 c) ≠ zc (fwd 2 c) ∧ zc (fwd 1 c) ≠ zc (fwd 2 c) := by revert c; decide +kernel
theorem places_bwd (c : Dev nD) : zc c ≠ zc (bwd 0 c) ∧ zc c ≠ zc (bwd 1 c) ∧ zc c ≠ zc (bwd 2 c)
    ∧ zc (bwd 0 c) ≠ zc (bwd 1 c) ∧ zc (bwd 0 c) ≠ zc (bwd 2 c) ∧ zc (bwd 1 c) ≠ zc (bwd 2 c) := by revert c; decide +kernel

omit [FloatOps F] in
theorem dg_fwd (c : Dev nD) (q : PosShare TreeShare) (f : S4x1x512.Idx → Elt F .i32) :
    (((c : Thread nD τ).loc cc0_scratch0) ↦{q} f : sProp 𝕄)
      = iprop(dgPts c (zc c) q f ∗ dgPts c (zc (fwd 0 c)) q f ∗ dgPts c (zc (fwd 1 c)) q f ∗ dgPts c (zc (fwd 2 c)) q f) := by
  obtain ⟨a, b, d, e, g, h⟩ := places_fwd c
  exact pts_four (ℓ := (c : Thread nD τ).loc cc0_scratch0) q f (slots_univ (zc_cases c)) (disjoint_slot a) (disjoint_slot b) (disjoint_slot d)
    (disjoint_slot e) (disjoint_slot g) (disjoint_slot h)
omit [FloatOps F] in
theorem dg_bwd (c : Dev nD) (q : PosShare TreeShare) (f : S4x1x512.Idx → Elt F .i32) :
    (((c : Thread nD τ).loc cc0_scratch0) ↦{q} f : sProp 𝕄)
      = iprop(dgPts c (zc c) q f ∗ dgPts c (zc (bwd 0 c)) q f ∗ dgPts c (zc (bwd 1 c)) q f ∗ dgPts c (zc (bwd 2 c)) q f) := by
  obtain ⟨a, b, d, e, g, h⟩ := places_bwd c
  exact pts_four (ℓ := (c : Thread nD τ).loc cc0_scratch0) q f (slots_univ (zc_cases_bwd c)) (disjoint_slot a) (disjoint_slot b) (disjoint_slot d)
    (disjoint_slot e) (disjoint_slot g) (disjoint_slot h)
omit [FloatOps F] in
theorem sb_fwd (c : Dev nD) (f : S4x160x256.Idx → Elt F .bf16) :
    (((c : Thread nD τ).loc cc0_scratch1) ↦{fullShare} f : sProp 𝕄)
      = iprop(sbPts c (zc c) f ∗ sbPts c (zc (fwd 0 c)) f ∗ sbPts c (zc (fwd 1 c)) f ∗ sbPts c (zc (fwd 2 c)) f) := by
  obtain ⟨a, b, d, e, g, h⟩ := places_fwd c
  exact pts_four (ℓ := (c : Thread nD τ).loc cc0_scratch1) fullShare f (slots_univ (zc_cases c)) (disjoint_slot a) (disjoint_slot b) (disjoint_slot d)
    (disjoint_slot e) (disjoint_slot g) (disjoint_slot h)
omit [FloatOps F] in
theorem rb_fwd (c : Dev nD) (f : S4x160x256.Idx → Elt F .bf16) :
    (((c : Thread nD τ).loc cc0_scratch2) ↦{fullShare} f : sProp 𝕄)
      = iprop(rbPts c (zc c) f ∗ rbPts c (zc (fwd 0 c)) f ∗ rbPts c (zc (fwd 1 c)) f ∗ rbPts c (zc (fwd 2 c)) f) := by
  obtain ⟨a, b, d, e, g, h⟩ := places_fwd c
  exact pts_four (ℓ := (c : Thread nD τ).loc cc0_scratch2) fullShare f (slots_univ (zc_cases c)) (disjoint_slot a) (disjoint_slot b) (disjoint_slot d)
    (disjoint_slot e) (disjoint_slot g) (disjoint_slot h)
omit [FloatOps F] in
theorem rb_bwd (c : Dev nD) (f : S4x160x256.Idx → Elt F .bf16) :
    (((c : Thread nD τ).loc cc0_scratch2) ↦{fullShare} f : sProp 𝕄)
      = iprop(rbPts c (zc c) f ∗ rbPts c (zc (bwd 0 c)) f ∗ rbPts c (zc (bwd 1 c)) f ∗ rbPts c (zc (bwd 2 c)) f) := by
  obtain ⟨a, b, d, e, g, h⟩ := places_bwd c
  exact pts_four (ℓ := (c : Thread nD τ).loc cc0_scratch2) fullShare f (slots_univ (zc_cases_bwd c)) (disjoint_slot a) (disjoint_slot b) (disjoint_slot d)
    (disjoint_slot e) (disjoint_slot g) (disjoint_slot h)

/-! ## A slot of destinations shared out -/

omit [FloatOps F] in
theorem dg_halves (c : Dev nD) (k : Fin 4) (f : S4x1x512.Idx → Elt F .i32) :
    dgPts c k fullShare f ⊣⊢ iprop(dgPts c k fullShare.left f ∗ dgPts c k fullShare.right f) :=
  pointsTo_share (PosShare.mem_left_op_right fullShare)

omit [FloatOps F] in
theorem dg_lent (c : Dev nD) (k : Fin 4) (f : S4x1x512.Idx → Elt F .i32) :
    dgPts c k fullShare.left f = iprop(dgPts c k (lent 0) f ∗ dgPts c k (lent 1) f ∗ dgPts c k (lent 2) f) := by
  have a := pointsTo_share (ℓ := (c : Thread nD τ).loc cc0_scratch0) (I := (slot k : Finset S4x1x512.Idx)) (f := f) (Ix := Unit) (Name := ℕ) (U := UU) (Lvl := ℕ)
    (PosShare.mem_left_op_right fullShare.left)
  have b := pointsTo_share (ℓ := (c : Thread nD τ).loc cc0_scratch0) (I := (slot k : Finset S4x1x512.Idx)) (f := f) (Ix := Unit) (Name := ℕ) (U := UU) (Lvl := ℕ)
    (PosShare.mem_left_op_right fullShare.left.right)
  unfold dgPts lent
  exact (Entails.antisymm a.1 a.2).trans (congrArg (fun X => iprop(_ ∗ X)) (Entails.antisymm b.1 b.2))

end Cert.KernelIdealProof

end
-- ==== Proof.Ideal.Steps.lean ====
/-
# The steps of the exchange

One lemma per kind of step of the kernel's body: the signal to a barrier, the wait on it, the two
transfers to the device `r + 1` places on, and the waits. After its wait each semaphore is closed.
-/
module

public import proofs.«01_k».proof.Proof.Ideal.Access

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-- What a device owes, whatever it has waited on. -/
def ow (c : Dev nD) (O : CellTallies nD τ sig Unit) : sProp 𝕄 := iprop(∃ W, owes (c : Thread nD τ) O W)

/-- The weakest precondition of a device's program. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (K : Dev nD × KIx → ℕ) (c : Dev nD)

/-- Closing a semaphore whose round is over. -/
theorem close (k : KIx) (R : ℕ) (hR : ∀ r, R ≤ r → (sched (F := F) m ρ).duties (kcell (c, k)) r = ∅) :
    iprop(records m ρ K ∗ atPos ER (kcell (c, k)) R ∅ 0) ⊢ iprop(|={Set.univ}=> semVal (kcell (c, k)) 0) := by
  iintro ⟨#HR, Hat⟩
  iapply (Rounds.cell_close ER (sched m ρ) (Set.mem_univ (K (c, k))) (fun h => h) (R := R) hR)
  isplitr; · iapply (inv_of m ρ K c k); iexact HR
  iexact Hat

/-- A receive semaphore no one pays closes at once. -/
theorem close_own (k : KIx) (hk : kDuties c (some k) = ∅) :
    iprop(records m ρ K ∗ at₀ c k) ⊢ iprop(|={Set.univ}=> semVal (kcell (c, k)) 0) :=
  close m ρ K c k 0 fun r _ => by
    rcases Nat.eq_zero_or_pos r with rfl | h
    · rw [duties_cell, hk]
    · exact duties_later m ρ _ r h

/-- The signal to the barrier of the device `r + 1` places on hands over the two receive slots that device writes. -/
theorem wp_bar (r : Fin 3) (n : Dev nD) (hn : n = fwd r c) (O : CellTallies nD τ sig Unit)
    {α : Type} {Q : α → sProp 𝕄} {k : PUnit → Prog (TpuEff nD τ sig (Elt F) Λ₀ .tc) α} :
    iprop(records m ρ K ∗ ow c (O + barOf r c) ∗ dutyTok ER (kcell (fwd r c, kBar)) 0 r ∗ handed c (zc (fwd r c)))
      ⊢ iprop((ow c O -∗ W c (k ⟨⟩) Q) -∗ W c (.op (.semSignal (n : Thread nD τ) barS 1) k) Q) := by
  subst hn
  unfold ow
  iintro ⟨#HR, ⟨%w, HO⟩, Ht, Hh⟩ Hk
  iapply (Rounds.wp_signal 𝒱₀ ER (sched m ρ) (c : Thread nD τ) none (dst := (fwd r c : Thread nD τ)) (κ := K (fwd r c, kBar)) (r := 0)
      (d := r) (k' := 1) (by rw [show (((fwd r c : Dev nD) : Thread nD τ), SemLoc.reg barS) = kcell (fwd r c, kBar) from rfl, duties_cell]; exact Finset.mem_univ _)
      (amount_cell m ρ (fwd r c) kBar 0 r) () O rfl)
    $$ [HO Ht Hh]
  · isplitr; · iapply (inv_of m ρ K (fwd r c) kBar); iexact HR
    isplitl [HO]; · iexact HO
    isplitl [Ht]; · iexact Ht
    isplitl [Hh]
    · iapply (Entails.of_eq (show handed c (zc (fwd r c)) = (sched m ρ).payload (kcell (fwd r c, kBar)) 0 r from by
        rw [payload_cell]; unfold kPay; rw [bwd_fwd]))
      iexact Hh
    iapply (reached_of m ρ K (fwd r c) kBar); iexact HR
  iintro HO
  iapply Hk
  iexists w; iexact HO

/-- The wait on the barrier, owing only receipts: it brings the slots this device writes, and closes the barrier. -/
theorem wp_barrier (O : CellTallies nD τ sig Unit) (hO : Above 1 O) {α : Type} {Q : α → sProp 𝕄} {k : PUnit → Prog (TpuEff nD τ sig (Elt F) Λ₀ .tc) α} :
    iprop(records m ρ K ∗ levAts L lv ∗ crd c kBar 3 ∗ ow c O ∗ at₀ c kBar)
      ⊢ iprop(((ow c O ∗ semVal (kcell (c, kBar)) 0 ∗ handed (fwd 0 c) (zc c) ∗ handed (fwd 1 c) (zc c) ∗ handed (fwd 2 c) (zc c)) -∗ W c (k ⟨⟩) Q)
        -∗ W c (.op (.semWait barS 3) k) Q) := by
  unfold ow
  iintro ⟨#HR, #HL, Hc, ⟨%w, HO⟩, Hat⟩ Hk
  iapply (Rounds.wp_wait_rest_token 𝒱₀ ER (sched m ρ) (c : Thread nD τ) none (κ := K (c, kBar))
      (wpE_semWait_eq 𝒱₀ (c : Thread nD τ) none Set.univ) (Set.mem_univ _) () (O := O) (W := w) (R := 0) (m := 0) (T := ∅)
      (by rw [show (((c : Dev nD) : Thread nD τ), SemLoc.reg barS) = kcell (c, kBar) from rfl, expect_bar])) $$ [Hc HO Hat]
  · isplitr; · iapply (inv_of m ρ K c kBar); iexact HR
    isplitl [Hc]; · iexact Hc
    isplitl [HO]; · iexact HO
    isplitr; · iapply (mayWait c (.reg barS) 1 O (Nat.le_refl 1) hO); iexact HL
    iexact Hat
  iintro ⟨HO, Hat, -, Hpay⟩
  ihave Hp := (Entails.of_eq (rest_bar m ρ c)) $$ Hpay
  icases Hp with ⟨H2, H1, H0⟩
  imod (close m ρ K c kBar 1 (duties_later m ρ _)) $$ [Hat] with Hz
  · isplitr; · iexact HR
    iexact Hat
  iapply Hk
  isplitl [HO]; · iexists _; iexact HO
  isplitl [Hz]; · iexact Hz
  isplitl [H0]; · iexact H0
  isplitl [H1]; · iexact H1
  iexact H2

/-- A wait on one of the device's own semaphores, nothing owed, by a transfer's credit: it brings what the
    transfer carried, and closes the semaphore. -/
theorem wp_await (o : Own) (q : DmaSem sig) (hq : q = ownNo o) (hd : kDuties c (some (.inr o)) = {0})
    {sp sp' : Space} {s s' : Shape} {e e' : EltTy} {src : Memref sig .tc sp' s' e'} {dst : Memref sig .tc sp s e}
    {hsrc : src.view.WordExact} {hdst : dst.view.WordExact} (hN : dst.view.dmaCredit = kAmount (some (.inr o)))
    {α : Type} {Q : α → sProp 𝕄} {k : PUnit → Prog (TpuEff nD τ sig (Elt F) Λ₀ .tc) α} :
    iprop(records m ρ K ∗ crd c (.inr o) (kAmount (some (.inr o))) ∗ ow c 0 ∗ at₀ c (.inr o))
      ⊢ iprop(((ow c 0 ∗ semVal (kcell (c, .inr o)) 0 ∗ kPay m ρ c 0 (some (.inr o))) -∗ W c (k ⟨⟩) Q)
        -∗ W c (.op (.waitDma2 q src dst hsrc hdst) k) Q) := by
  subst hq
  unfold ow
  rw [← hN]
  iintro ⟨#HR, Hc, ⟨%w, HO⟩, Hat⟩ Hk
  iapply (Rounds.wp_wait_rest_token 𝒱₀ ER (sched m ρ) (c : Thread nD τ) none (κ := K (c, .inr o))
      (wpE_waitDma2_eq 𝒱₀ (c : Thread nD τ) none Set.univ) (Set.mem_univ _) () (O := 0) (W := w) (R := 0) (m := 0) (T := ∅)
      (by rw [show (((c : Dev nD) : Thread nD τ), SemLoc.dma (ownNo o)) = kcell (c, .inr o) from rfl, expect_one m ρ c (.inr o) hd, Nat.zero_add, hN])) $$ [Hc HO Hat]
  · isplitr; · iapply (inv_of m ρ K c (.inr o)); iexact HR
    isplitl [Hc]; · iexact Hc
    isplitl [HO]; · iexact HO
    isplitr; · rw [MayWait_zero]; iempintro
    iexact Hat
  iintro ⟨HO, Hat, -, Hpay⟩
  ihave Hp := (Entails.of_eq (rest_one m ρ c (.inr o) hd)) $$ Hpay
  imod (close m ρ K c (.inr o) 1 (duties_later m ρ _)) $$ [Hat] with Hz
  · isplitr; · iexact HR
    iexact Hat
  iapply Hk
  isplitl [HO]; · iexists _; iexact HO
  isplitl [Hz]; · iexact Hz
  iexact Hp

theorem duties_dr (r : Fin 3) : kDuties (fwd r c) (some (kDr (zc c))) = {0} := if_neg (zc_ne_fwd r c)
theorem duties_br (r : Fin 3) : kDuties (fwd r c) (some (kBr (zc c))) = {0} := if_neg (zc_ne_fwd r c)
theorem duties_dr_bwd (r : Fin 3) : kDuties c (some (kDr (zc (bwd r c)))) = {0} := if_neg fun h => zc_ne_bwd r c h.symm
theorem duties_br_bwd (r : Fin 3) : kDuties c (some (kBr (zc (bwd r c)))) = {0} := if_neg fun h => zc_ne_bwd r c h.symm

/-- The transfer of the device's destinations to the device `r + 1` places on. -/
theorem wp_send_dest (r : Fin 3) (n : Dev nD) (hn : n = fwd r c) (sS sR : DmaSem sig) (hS : sS = ownNo (.inl r)) (hR : sR = ownNo (.inr (.inl (zc c))))
    (off : Fin 3 → ℕ) (h : off = ![(zc c).val, 0, 0]) (hb hb') (O : CellTallies nD τ sig Unit) (f : S4x1x512.Idx → Elt F .i32)
    {hsc : (dgS off hb').view.ref.isScScratch = false} {hsrc : (dgS off hb).view.WordExact} {hdst : (dgS off hb').view.WordExact}
    {hsem : DmaTarget.Typed .vmem (.dma sR) (.remote (n : Thread nD τ) (dgS off hb') (.dma sS) hsc)}
    {α : Type} {Q : α → sProp 𝕄} {k : PUnit → Prog (TpuEff nD τ sig (Elt F) Λ₀ .tc) α} :
    iprop(records m ρ K ∗ dgPts c (zc c) (lent r) (DG m ρ c) ∗ dgPts (fwd r c) (zc c) fullShare f ∗ ow c (O + drOf r c)
        ∗ dutyTok ER (kcell (c, kDs r)) 0 0 ∗ dutyTok ER (kcell (fwd r c, kDr (zc c))) 0 0)
      ⊢ iprop(((crd c (kDs r) Nd ∗ ow c O) -∗ W c (k ⟨⟩) Q)
        -∗ W c (.op (.enqueueDma (dgS off hb) (.remote (n : Thread nD τ) (dgS off hb') (.dma sS) hsc) (.dma sR) hsrc hdst hsem) k) Q) := by
  subst hn hS hR
  unfold ow
  have e1 : ∀ q g, (dgPts c (zc c) q g : sProp 𝕄) = ((dgS off hb).view.loc (c : Thread nD τ) ↦[(dgS off hb).view.set]{q} g) := fun q g => by rw [dgS_set h]; rfl
  have e2 : ∀ g, (dgPts (fwd r c) (zc c) fullShare g : sProp 𝕄) = ((dgS off hb').view.loc (fwd r c : Thread nD τ) ↦[(dgS off hb').view.set]{fullShare} g) :=
    fun g => by rw [dgS_set h]; rfl
  iintro ⟨#HR, Hs, Hd, ⟨%w, HO⟩, Ht, Ht'⟩ Hk
  ihave Hs' := (Entails.of_eq (e1 (lent r) (DG m ρ c))) $$ Hs
  ihave Hd' := (Entails.of_eq (e2 f)) $$ Hd
  iapply (Rounds.wp_send_pointsTo 𝒱₀ ER (sched m ρ) (c : Thread nD τ) none (κ₁ := K (c, kDs r)) (κ₂ := K (fwd r c, kDr (zc c)))
    (c' := (fwd r c : Thread nD τ)) (sS := .dma (ownNo (.inl r))) (sem := .dma (ownNo (.inr (.inl (zc c)))))
    (r₁ := 0) (r₂ := 0) (d₁ := 0) (d₂ := 0) (q := lent r) (fs := DG m ρ c) (fd := f)
    (by rw [show (((c : Dev nD) : Thread nD τ), SemLoc.dma (ownNo (.inl r))) = kcell (c, kDs r) from rfl, duties_cell]; exact Finset.mem_singleton_self _)
    (by rw [show (((fwd r c : Dev nD) : Thread nD τ), SemLoc.dma (ownNo (.inr (.inl (zc c))))) = kcell (fwd r c, kDr (zc c)) from rfl, duties_cell, duties_dr]; exact Finset.mem_singleton_self _)
    () () Nd rfl (amount_cell m ρ c (kDs r) 0 0) (amount_cell m ρ (fwd r c) (kDr (zc c)) 0 0) O rfl (W := w)
    (Entails.of_eq (by rw [show (((c : Dev nD) : Thread nD τ), SemLoc.dma (ownNo (.inl r))) = kcell (c, kDs r) from rfl, payload_cell]; exact (e1 _ _).symm))
    (Entails.of_eq (by
      rw [show (((fwd r c : Dev nD) : Thread nD τ), SemLoc.dma (ownNo (.inr (.inl (zc c))))) = kcell (fwd r c, kDr (zc c)) from rfl, payload_cell]
      rw [← e2]
      unfold kPay dgPts
      refine pointsTo_congr fun i hi => ?_
      refine (dg_land h hb f (DG m ρ c) hi).trans ?_
      unfold DG asm
      dsimp only
      rw [mem_fwd])))
    $$ [Hs' Hd' HO Ht Ht']
  · isplitr; · iapply (inv_of m ρ K c (kDs r)); iexact HR
    isplitr; · iapply (inv_of m ρ K (fwd r c) (kDr (zc c))); iexact HR
    isplitl [Hs']; · iexact Hs'
    isplitl [Hd']; · iexact Hd'
    isplitl [HO]; · iexact HO
    isplitl [Ht]; · iexact Ht
    isplitr; · iapply (reached_of m ρ K c (kDs r)); iexact HR
    isplitl [Ht']; · iexact Ht'
    iapply (reached_of m ρ K (fwd r c) (kDr (zc c))); iexact HR
  iintro ⟨Hc, HO⟩
  iapply Hk
  isplitl [Hc]; · iexact Hc
  iexists w; iexact HO

/-- The transfer of the packed rows to the device `r + 1` places on. -/
theorem wp_send_rows (r : Fin 3) (n : Dev nD) (hn : n = fwd r c) (sS sR : DmaSem sig) (hS : sS = ownNo (.inr (.inr (.inl r)))) (hR : sR = ownNo (.inr (.inr (.inr (zc c)))))
    (off off' : Fin 3 → ℕ) (h : off = ![(zc c).val, 0, 0]) (h' : off' = ![(zc (fwd r c)).val, 0, 0]) (hb hb') (O : CellTallies nD τ sig Unit)
    (f : S4x160x256.Idx → Elt F .bf16)
    {hsc : (rbS off hb).view.ref.isScScratch = false} {hsrc : (sbS off' hb').view.WordExact} {hdst : (rbS off hb).view.WordExact}
    {hsem : DmaTarget.Typed .vmem (.dma sR) (.remote (n : Thread nD τ) (rbS off hb) (.dma sS) hsc)}
    {α : Type} {Q : α → sProp 𝕄} {k : PUnit → Prog (TpuEff nD τ sig (Elt F) Λ₀ .tc) α} :
    iprop(records m ρ K ∗ sbPts c (zc (fwd r c)) (SB m ρ c) ∗ rbPts (fwd r c) (zc c) f ∗ ow c (O + brOf r c)
        ∗ dutyTok ER (kcell (c, kBs r)) 0 0 ∗ dutyTok ER (kcell (fwd r c, kBr (zc c))) 0 0)
      ⊢ iprop(((crd c (kBs r) Nb ∗ ow c O) -∗ W c (k ⟨⟩) Q)
        -∗ W c (.op (.enqueueDma (sbS off' hb') (.remote (n : Thread nD τ) (rbS off hb) (.dma sS) hsc) (.dma sR) hsrc hdst hsem) k) Q) := by
  subst hn hS hR
  unfold ow
  have e1 : ∀ g, (sbPts c (zc (fwd r c)) g : sProp 𝕄) = ((sbS off' hb').view.loc (c : Thread nD τ) ↦[(sbS off' hb').view.set]{fullShare} g) := fun g => by rw [sbS_set h']; rfl
  have e2 : ∀ g, (rbPts (fwd r c) (zc c) g : sProp 𝕄) = ((rbS off hb).view.loc (fwd r c : Thread nD τ) ↦[(rbS off hb).view.set]{fullShare} g) :=
    fun g => by rw [rbS_set h]; rfl
  iintro ⟨#HR, Hs, Hd, ⟨%w, HO⟩, Ht, Ht'⟩ Hk
  ihave Hs' := (Entails.of_eq (e1 (SB m ρ c))) $$ Hs
  ihave Hd' := (Entails.of_eq (e2 f)) $$ Hd
  iapply (Rounds.wp_send_pointsTo 𝒱₀ ER (sched m ρ) (c : Thread nD τ) none (κ₁ := K (c, kBs r)) (κ₂ := K (fwd r c, kBr (zc c)))
    (c' := (fwd r c : Thread nD τ)) (sS := .dma (ownNo (.inr (.inr (.inl r))))) (sem := .dma (ownNo (.inr (.inr (.inr (zc c))))))
    (r₁ := 0) (r₂ := 0) (d₁ := 0) (d₂ := 0) (q := fullShare) (fs := SB m ρ c) (fd := f)
    (by rw [show (((c : Dev nD) : Thread nD τ), SemLoc.dma (ownNo (.inr (.inr (.inl r))))) = kcell (c, kBs r) from rfl, duties_cell]; exact Finset.mem_singleton_self _)
    (by rw [show (((fwd r c : Dev nD) : Thread nD τ), SemLoc.dma (ownNo (.inr (.inr (.inr (zc c)))))) = kcell (fwd r c, kBr (zc c)) from rfl, duties_cell, duties_br]; exact Finset.mem_singleton_self _)
    () () Nb rfl (amount_cell m ρ c (kBs r) 0 0) (amount_cell m ρ (fwd r c) (kBr (zc c)) 0 0) O rfl (W := w)
    (Entails.of_eq (by rw [show (((c : Dev nD) : Thread nD τ), SemLoc.dma (ownNo (.inr (.inr (.inl r))))) = kcell (c, kBs r) from rfl, payload_cell]; exact (e1 _).symm))
    (Entails.of_eq (by
      rw [show (((fwd r c : Dev nD) : Thread nD τ), SemLoc.dma (ownNo (.inr (.inr (.inr (zc c)))))) = kcell (fwd r c, kBr (zc c)) from rfl, payload_cell]
      rw [← e2]
      unfold kPay rbPts
      refine pointsTo_congr fun i hi => ?_
      obtain ⟨j, rfl⟩ := exists_put hi
      refine (rb_land h h' hb hb' f (SB m ρ c) j).trans ?_
      unfold SB RB
      rw [asm_put, asm_put, mem_fwd, mem_zc])))
    $$ [Hs' Hd' HO Ht Ht']
  · isplitr; · iapply (inv_of m ρ K c (kBs r)); iexact HR
    isplitr; · iapply (inv_of m ρ K (fwd r c) (kBr (zc c))); iexact HR
    isplitl [Hs']; · iexact Hs'
    isplitl [Hd']; · iexact Hd'
    isplitl [HO]; · iexact HO
    isplitl [Ht]; · iexact Ht
    isplitr; · iapply (reached_of m ρ K c (kBs r)); iexact HR
    isplitl [Ht']; · iexact Ht'
    iapply (reached_of m ρ K (fwd r c) (kBr (zc c))); iexact HR
  iintro ⟨Hc, HO⟩
  iapply Hk
  isplitl [Hc]; · iexact Hc
  iexists w; iexact HO

end Steps

end Cert.KernelIdealProof

end
-- ==== Proof.Ideal.Parts1.lean ====
/-
# The body's first steps: the barriers and the destinations

The signals to the three others of the group, the wait on the barrier, and the transfers of the
device's own destinations.
-/
module

public import proofs.«01_k».proof.Proof.Ideal.Steps

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The device's place as the program computes it. -/
abbrev zw (c : Dev nD) : BitVec 32 := Scalar.remsi (Scalar.divsi (Dev.word c) 1#32) 4#32
abbrev barA : Sems sig S_ := SemArray.scalar (sig.barrier 0 rfl)

/-- The rows and destinations of device `c` as staged, owned. -/
abbrev xPts (c : Dev nD) : sProp 𝕄 := ((c : Thread nD τ).loc cc0_stg0_0) ↦{fullShare} xstg m ρ c
abbrev dPts (c : Dev nD) : sProp 𝕄 := ((c : Thread nD τ).loc cc0_stg1_0) ↦{fullShare} dstg m ρ c

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The semaphores the program names -/

theorem sem_ds (r : Fin 3) (off : Fin 1 → ℕ) (h : off = ![r.val]) (hb) :
    ((cc0_scratch3.slice (Rect.unit (s := S3) off S1.size hb)).squeeze S_ squeezes_S1_S_).sem = ownNo (.inl r) := by
  subst h; revert r; decide +kernel
theorem sem_dr (j : Fin 4) (off : Fin 1 → ℕ) (h : off = ![j.val]) (hb) :
    ((cc0_scratch4.slice (Rect.unit (s := S4) off S1.size hb)).squeeze S_ squeezes_S1_S_).sem = ownNo (.inr (.inl j)) := by
  subst h; revert j; decide +kernel
theorem sem_bs (r : Fin 3) (off : Fin 1 → ℕ) (h : off = ![r.val]) (hb) :
    ((cc0_scratch5.slice (Rect.unit (s := S3) off S1.size hb)).squeeze S_ squeezes_S1_S_).sem = ownNo (.inr (.inr (.inl r))) := by
  subst h; revert r; decide +kernel
theorem sem_br (j : Fin 4) (off : Fin 1 → ℕ) (h : off = ![j.val]) (hb) :
    ((cc0_scratch6.slice (Rect.unit (s := S4) off S1.size hb)).squeeze S_ squeezes_S1_S_).sem = ownNo (.inr (.inr (.inr j))) := by
  subst h; revert j; decide +kernel

/-- A body that has ended gives what it promised. -/
theorem W_ret (c : Dev nD) {α : Type} (a : α) {Q : α → sProp 𝕄} : Q a ⊢ W c (.ret a) Q := by
  unfold W; rw [wp_ret]; iintro H; imodintro; iexact H

section Parts

variable (K : Dev nD × KIx → ℕ) (c : Dev nD)

/-- The signals to the devices one and two places on. -/
theorem part1 {Q : (Σ' (d0 : Dev nD) (v2 : BitVec 32) (v5 : BitVec 32) (v8 : BitVec 32) (v9 : Sems sig S_) (v27 : BitVec 32) (v29 : BitVec 32), BitVec 32) → sProp 𝕄} :
    iprop(records m ρ K ∗ ow c (O₀ c) ∗ (dutyTok ER (kcell (fwd 0 c, kBar)) 0 0 ∗ handed c (zc (fwd 0 c))) ∗ (dutyTok ER (kcell (fwd 1 c, kBar)) 0 1 ∗ handed c (zc (fwd 1 c)))
        ∗ (∀ v2 v5 v27 v29 v30, ow c (oR2 c) -∗ Q ⟨c, v2, v5, zw c, barA, v27, v29, v30⟩))
      ⊢ W c (k0_part1 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6) Q := by
  rw [k0_part1_eq_skeleton]; unfold k0_part1_skel
  simp only [semSignalWord, semWaitWord, Prog.lift, Prog.bind_op, Prog.bind_ret, Prog.pure_eq_ret, wp_deviceId]
  iintro ⟨#HR, HO, ⟨Ht0, Hh0⟩, ⟨Ht1, Hh1⟩, Hk⟩
  unfold O₀
  iapply (wp_bar m ρ K c 0 _ (dev_eq c 0 (k0_dev1_lt c) (k0_dev1_eq c)) (oR1 c)) $$ [HO Ht0 Hh0]
  · isplitr; · iexact HR
    isplitl [HO]; · iexact HO
    isplitl [Ht0] <;> iassumption
  iintro HO
  unfold oR1
  iapply (wp_bar m ρ K c 1 _ (dev_eq c 1 (k0_dev2_lt c) (k0_dev2_eq c)) (oR2 c)) $$ [HO Ht1 Hh1]
  · isplitr; · iexact HR
    isplitl [HO]; · iexact HO
    isplitl [Ht1] <;> iassumption
  iintro HO
  iapply (W_ret c _)
  iapply Hk $$ HO

/-- The third signal, the wait, the device's own slot of destinations, and the first transfer of it. -/
theorem part2 (v2 v5 v27 v29 v30 : BitVec 32) {Q : (Σ' (v58 : BitVec 32) (v62 : BitVec 32), BitVec 32) → sProp 𝕄} :
    iprop(records m ρ K ∗ levAts L lv ∗ ow c (oR2 c) ∗ (dutyTok ER (kcell (fwd 2 c, kBar)) 0 2 ∗ handed c (zc (fwd 2 c)))
        ∗ (crd c kBar 3 ∗ at₀ c kBar) ∗ dPts m ρ c ∗ (∃ f, dgPts c (zc c) fullShare f)
        ∗ (dutyTok ER (kcell (c, kDs 0)) 0 0 ∗ dutyTok ER (kcell (fwd 0 c, kDr (zc c))) 0 0)
        ∗ (∀ v58 v62, (ow c (oD1 c) ∗ semVal (kcell (c, kBar)) 0 ∗ dPts m ρ c ∗ crd c (kDs 0) Nd
              ∗ (∃ f, rbPts (fwd 0 c) (zc c) f) ∗ handed (fwd 1 c) (zc c) ∗ handed (fwd 2 c) (zc c)
              ∗ dgPts c (zc c) (lent 1) (DG m ρ c) ∗ dgPts c (zc c) (lent 2) (DG m ρ c) ∗ dgPts c (zc c) fullShare.right (DG m ρ c))
            -∗ Q ⟨v58, v62, 1#32⟩))
      ⊢ W c (k0_part2 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c) barA v27 v29 v30) Q := by
  rw [k0_part2_eq_skeleton]; unfold k0_part2_skel
  simp only [semSignalWord, semWaitWord, Prog.lift, Prog.bind_op, Prog.bind_ret, Prog.pure_eq_ret]
  iintro ⟨#HR, #HL, HO, ⟨Ht2, Hh2⟩, ⟨Hc, Hat⟩, Hd, ⟨%f, Hg⟩, ⟨Hs0, Hr0⟩, Hk⟩
  unfold oR2
  iapply (wp_bar m ρ K c 2 _ (dev_eq c 2 (k0_dev3_lt c) (k0_dev3_eq c)) (oD0 c)) $$ [HO Ht2 Hh2]
  · isplitr; · iexact HR
    isplitl [HO]; · iexact HO
    isplitl [Ht2] <;> iassumption
  iintro HO
  iapply (wp_barrier m ρ K c (oD0 c) (above_oD0 c)) $$ [HO Hc Hat]
  · isplitr; · iexact HR
    isplitr; · iexact HL
    isplitl [Hc]; · iexact Hc
    isplitl [HO] <;> iassumption
  iintro ⟨HO, Hz, H0, H1, H2⟩
  iapply (wp_load 𝒱₀ (c : Thread nD τ) none Set.univ (m := dM) (Finset.subset_univ _)) $$ Hd; iintro Hd
  rw [show dM.view.readAt (Elt F) (Rect.unit (s := S512) ![0] S512.size inb_S512_S512_0).toLoadRect (dstg m ρ c) = dstg m ρ c from
    Memref.readAt_unit_zero (Elt F) cc0_stg1_0 hz1 _ _]
  unfold dgPts
  iapply (wp_load 𝒱₀ (c : Thread nD τ) none Set.univ (m := dgM) (dg_cells (k := zc c) (k0_off1_eq c) (k0_off1_inb c)).subset) $$ Hg; iintro Hg
  iapply (wp_store 𝒱₀ (c : Thread nD τ) none Set.univ (m := dgM) (Mk := Finset.univ) (dg_stored (k := zc c) (k0_off1_eq c) (k0_off1_inb c)).subset) $$ Hg; iintro Hg
  ihave Hg := (Entails.of_eq (show _ = dgPts c (zc c) fullShare (DG m ρ c) from pointsTo_congr fun i hi => by
    obtain ⟨j, rfl⟩ := exists_put hi
    refine (dg_write (k := zc c) (k0_off1_eq c) (k0_off1_inb c) f _ j).trans ?_
    unfold DG; rw [asm_put, mem_zc])) $$ Hg
  ihave Hg := (dg_halves c (zc c) (DG m ρ c)).1 $$ Hg
  icases Hg with ⟨Hl, Hright⟩
  ihave Hl := (Entails.of_eq (dg_lent c (zc c) (DG m ρ c))) $$ Hl
  icases Hl with ⟨Hl0, Hl1, Hl2⟩
  unfold oD0
  unfold handed
  icases H0 with ⟨⟨%f0, Hd0⟩, Hb0⟩
  iapply (wp_send_dest m ρ K c 0 _ (dev_eq c 0 (k0_dev4_lt c) (k0_dev4_eq c)) _ _ (sem_ds 0 ![0] rfl inb_S3_S1_0) (sem_dr (zc c) _ (k0_off2_eq c) (k0_off2_inb c))
    (k0_off3 c) (k0_off3_eq c) (k0_off3_inb c) (k0_off3_inb c) (oD1 c) f0) $$ [HO Hl0 Hd0 Hs0 Hr0]
  · isplitr; · iexact HR
    isplitl [Hl0]; · iexact Hl0
    isplitl [Hd0]; · iexact Hd0
    isplitl [HO]; · iexact HO
    isplitl [Hs0] <;> iassumption
  iintro ⟨Hcs, HO⟩
  iapply (W_ret c _)
  unfold dgPts
  iapply Hk
  isplitl [HO]; · iexact HO
  isplitl [Hz]; · iexact Hz
  isplitl [Hd]; · iexact Hd
  isplitl [Hcs]; · iexact Hcs
  isplitl [Hb0]; · iexact Hb0
  isplitl [H1]; · iexact H1
  isplitl [H2]; · iexact H2
  isplitl [Hl1]; · iexact Hl1
  isplitl [Hl2]; · iexact Hl2
  iexact Hright

/-- The two other transfers of the destinations; the rows and destinations read. -/
theorem part3 (v2 v5 v58 v62 w : BitVec 32) {Q : (Σ' (v90 : FVec F S512x256 .bf16) (v96 : IVec S4x512 1) (v98 : FVec F S4x512 .f32), IVec S512x512 32) → sProp 𝕄} :
    iprop(records m ρ K ∗ ow c (oD1 c) ∗ xPts m ρ c ∗ dPts m ρ c
        ∗ (dgPts c (zc c) (lent 1) (DG m ρ c) ∗ (∃ f, dgPts (fwd 1 c) (zc c) fullShare f) ∗ dutyTok ER (kcell (c, kDs 1)) 0 0 ∗ dutyTok ER (kcell (fwd 1 c, kDr (zc c))) 0 0)
        ∗ (dgPts c (zc c) (lent 2) (DG m ρ c) ∗ (∃ f, dgPts (fwd 2 c) (zc c) fullShare f) ∗ dutyTok ER (kcell (c, kDs 2)) 0 0 ∗ dutyTok ER (kcell (fwd 2 c, kDr (zc c))) 0 0)
        ∗ ((ow c (oB0 c) ∗ xPts m ρ c ∗ dPts m ρ c ∗ crd c (kDs 1) Nd ∗ crd c (kDs 2) Nd)
            -∗ Q ⟨k0_pay2 (xstg m ρ c), k0_pay3 (dstg m ρ c), k0_pay4 (dstg m ρ c), k0_pay5⟩))
      ⊢ W c (k0_part3 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c) v58 v62 w) Q := by
  rw [k0_part3_eq_skeleton]; unfold k0_part3_skel
  simp only [semSignalWord, semWaitWord, Prog.lift, Prog.bind_op, Prog.bind_ret, Prog.pure_eq_ret]
  iintro ⟨#HR, HO, Hx, Hd, ⟨Hl1, ⟨%f1, Hd1⟩, Hs1, Hr1⟩, ⟨Hl2, ⟨%f2, Hd2⟩, Hs2, Hr2⟩, Hk⟩
  unfold oD1
  iapply (wp_send_dest m ρ K c 1 _ (dev_eq c 1 (k0_dev5_lt c) (k0_dev5_eq c)) _ _ (sem_ds 1 ![1] rfl inb_S3_S1_1) (sem_dr (zc c) _ (k0_off2_eq c) (k0_off2_inb c))
    (k0_off3 c) (k0_off3_eq c) (k0_off3_inb c) (k0_off3_inb c) (oD2 c) f1) $$ [HO Hl1 Hd1 Hs1 Hr1]
  · isplitr; · iexact HR
    isplitl [Hl1]; · iexact Hl1
    isplitl [Hd1]; · iexact Hd1
    isplitl [HO]; · iexact HO
    isplitl [Hs1] <;> iassumption
  iintro ⟨Hc1, HO⟩
  unfold oD2
  iapply (wp_send_dest m ρ K c 2 _ (dev_eq c 2 (k0_dev6_lt c) (k0_dev6_eq c)) _ _ (sem_ds 2 ![2] rfl inb_S3_S1_2) (sem_dr (zc c) _ (k0_off2_eq c) (k0_off2_inb c))
    (k0_off3 c) (k0_off3_eq c) (k0_off3_inb c) (k0_off3_inb c) (oB0 c) f2) $$ [HO Hl2 Hd2 Hs2 Hr2]
  · isplitr; · iexact HR
    isplitl [Hl2]; · iexact Hl2
    isplitl [Hd2]; · iexact Hd2
    isplitl [HO]; · iexact HO
    isplitl [Hs2] <;> iassumption
  iintro ⟨Hc2, HO⟩
  iapply (wp_load 𝒱₀ (c : Thread nD τ) none Set.univ (m := xM) (Finset.subset_univ _)) $$ Hx; iintro Hx
  rw [show xM.view.readAt (Elt F) (Rect.unit (s := S512x256) ![0, 0] S512x256.size inb_S512x256_S512x256_0_0).toLoadRect (xstg m ρ c) = xstg m ρ c from
    Memref.readAt_unit_zero (Elt F) cc0_stg0_0 hz2 _ _]
  iapply (wp_load 𝒱₀ (c : Thread nD τ) none Set.univ (m := dM) (Finset.subset_univ _)) $$ Hd; iintro Hd
  rw [show dM.view.readAt (Elt F) (Rect.unit (s := S512) ![0] S512.size inb_S512_S512_0).toLoadRect (dstg m ρ c) = dstg m ρ c from
    Memref.readAt_unit_zero (Elt F) cc0_stg1_0 hz1 _ _]
  iapply (W_ret c _)
  iapply Hk
  isplitl [HO]; · iexact HO
  isplitl [Hx]; · iexact Hx
  isplitl [Hd]; · iexact Hd
  isplitl [Hc1] <;> iassumption

end Parts

end Cert.KernelIdealProof

end
-- ==== Proof.Ideal.Parts2.lean ====
/-
# The body's middle: the blocks packed and sent

The four blocks of rows are written to the send buffer, three of them are sent, and the device's own is
kept.
-/
module

public import proofs.«01_k».proof.Proof.Ideal.Parts1

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Every slot of the send buffer below `n` holds its block. -/
def Filled (c : Dev nD) (n : ℕ) (f : S4x160x256.Idx → Elt F .bf16) : Prop := ∀ i, (slotOf i).val < n → f i = SB m ρ c i

theorem filled_zero (c : Dev nD) (f : S4x160x256.Idx → Elt F .bf16) : Filled m ρ c 0 f := fun i h => absurd h (Nat.not_lt_zero _)
theorem filled_four (c : Dev nD) (f : S4x160x256.Idx → Elt F .bf16) (h : Filled m ρ c 4 f) : f = SB m ρ c := funext fun i => h i (slotOf i).isLt

/-- Storing slot `n`'s block on top of the slots below. -/
theorem fill_step (c : Dev nD) (n : ℕ) (k : Fin 4) (hk : k.val = n) (off : Fin 3 → ℕ) (h : off = ![k.val, 0, 0]) (hb)
    (f : S4x160x256.Idx → Elt F .bf16) (w : S1x160x256.Idx → Elt F .bf16) (hf : Filled m ρ c n f) (hw : w = packed (xstg m ρ c) (dstg m ρ c) k) :
    Filled m ρ c (n + 1) ((sbM.access (Rect.unit (s := S4x160x256) off S1x160x256.size hb)).write (Elt F) f w Finset.univ) := fun i hi => by
  rw [sb_write (k := k) h hb f w i]
  split
  next e => subst hw; unfold SB asm; rw [e]
  next e => exact hf i (by have : (slotOf i).val ≠ k.val := fun q => e (Fin.ext q); omega)

/-! ## What a wait credits -/

theorem Nd_eq (off : Fin 3 → ℕ) (hb) : (dgS off hb).view.dmaCredit = Nd := rfl
theorem Nb_eq (off : Fin 3 → ℕ) (hb) : (rbS off hb).view.dmaCredit = Nb := rfl
theorem Nb_eq' (off : Fin 3 → ℕ) (hb) : (sbS off hb).view.dmaCredit = Nb := rfl

section Waits
variable (K : Dev nD × KIx → ℕ) (c : Dev nD) (r : Fin 3) (q : DmaSem sig)
  {sp sp' : Space} {s s' : Shape} {e e' : EltTy} {src : Memref sig .tc sp' s' e'} {dst : Memref sig .tc sp s e}
  {hsrc : src.view.WordExact} {hdst : dst.view.WordExact}

/-- The destinations the device `r + 1` places back sent have arrived. -/
theorem wait_dr (hq : q = ownNo (.inr (.inl (zc (bwd r c))))) (hN : dst.view.dmaCredit = Nd)
    {α : Type} {Q : α → sProp 𝕄} {k : PUnit → Prog (TpuEff nD τ sig (Elt F) Λ₀ .tc) α} :
    iprop(records m ρ K ∗ crd c (kDr (zc (bwd r c))) Nd ∗ ow c 0 ∗ at₀ c (kDr (zc (bwd r c))))
      ⊢ iprop(((ow c 0 ∗ semVal (kcell (c, kDr (zc (bwd r c)))) 0 ∗ dgPts c (zc (bwd r c)) fullShare (DG m ρ c)) -∗ W c (k ⟨⟩) Q)
        -∗ W c (.op (.waitDma2 q src dst hsrc hdst) k) Q) :=
  wp_await m ρ K c (.inr (.inl (zc (bwd r c)))) q hq (duties_dr_bwd c r) hN

/-- The rows it packed have arrived. -/
theorem wait_br (hq : q = ownNo (.inr (.inr (.inr (zc (bwd r c)))))) (hN : dst.view.dmaCredit = Nb)
    {α : Type} {Q : α → sProp 𝕄} {k : PUnit → Prog (TpuEff nD τ sig (Elt F) Λ₀ .tc) α} :
    iprop(records m ρ K ∗ crd c (kBr (zc (bwd r c))) Nb ∗ ow c 0 ∗ at₀ c (kBr (zc (bwd r c))))
      ⊢ iprop(((ow c 0 ∗ semVal (kcell (c, kBr (zc (bwd r c)))) 0 ∗ rbPts c (zc (bwd r c)) (RB m ρ c)) -∗ W c (k ⟨⟩) Q)
        -∗ W c (.op (.waitDma2 q src dst hsrc hdst) k) Q) :=
  wp_await m ρ K c (.inr (.inr (.inr (zc (bwd r c))))) q hq (duties_br_bwd c r) hN

/-- The device's own transfer of its destinations is over. -/
theorem wait_ds (hq : q = ownNo (.inl r)) (hN : dst.view.dmaCredit = Nd)
    {α : Type} {Q : α → sProp 𝕄} {k : PUnit → Prog (TpuEff nD τ sig (Elt F) Λ₀ .tc) α} :
    iprop(records m ρ K ∗ crd c (kDs r) Nd ∗ ow c 0 ∗ at₀ c (kDs r))
      ⊢ iprop(((ow c 0 ∗ semVal (kcell (c, kDs r)) 0 ∗ dgPts c (zc c) (lent r) (DG m ρ c)) -∗ W c (k ⟨⟩) Q)
        -∗ W c (.op (.waitDma2 q src dst hsrc hdst) k) Q) :=
  wp_await m ρ K c (.inl r) q hq rfl hN

/-- The device's own transfer of rows is over. -/
theorem wait_bs (hq : q = ownNo (.inr (.inr (.inl r)))) (hN : dst.view.dmaCredit = Nb)
    {α : Type} {Q : α → sProp 𝕄} {k : PUnit → Prog (TpuEff nD τ sig (Elt F) Λ₀ .tc) α} :
    iprop(records m ρ K ∗ crd c (kBs r) Nb ∗ ow c 0 ∗ at₀ c (kBs r))
      ⊢ iprop(((ow c 0 ∗ semVal (kcell (c, kBs r)) 0 ∗ sbPts c (zc (fwd r c)) (SB m ρ c)) -∗ W c (k ⟨⟩) Q)
        -∗ W c (.op (.waitDma2 q src dst hsrc hdst) k) Q) :=
  wp_await m ρ K c (.inr (.inr (.inl r))) q hq rfl hN

end Waits

section Parts

variable (K : Dev nD × KIx → ℕ) (c : Dev nD)

/-- The send buffer, its slots below `n` filled. -/
def sbAt (n : ℕ) : sProp 𝕄 := iprop(∃ f, ⌜Filled m ρ c n f⌝ ∗ ((c : Thread nD τ).loc cc0_scratch1) ↦{fullShare} f)

/-- The blocks for places 0 and 1. -/
theorem part4 {Q : (Σ' (v105 : IVec S4x512 32) (v106 : IVec S160x512 32), IVec S160x512 32) → sProp 𝕄} :
    iprop(sbAt m ρ c 0 ∗ (sbAt m ρ c 2 -∗ Q ⟨k0_pay6 (k0_pay4 (F := F) (dstg m ρ c)) k0_pay5, iota .tc S160x512 32 [0] iota_S160x512_d0_w32, k0_pay9 (k0_pay4 (F := F) (dstg m ρ c)) k0_pay5⟩))
      ⊢ W c (k0_part4 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 (k0_pay2 (xstg m ρ c)) (k0_pay3 (dstg m ρ c)) (k0_pay4 (dstg m ρ c)) k0_pay5) Q := by
  rw [k0_part4_eq_skeleton]; unfold k0_part4_skel
  simp only [semSignalWord, semWaitWord, Prog.lift, Prog.bind_op, Prog.bind_ret, Prog.pure_eq_ret]
  unfold sbAt
  iintro ⟨⟨%f, %hf, Hb⟩, Hk⟩
  iapply (wp_load 𝒱₀ (c : Thread nD τ) none Set.univ (m := sbM) (Finset.subset_univ _)) $$ Hb; iintro Hb
  iapply (wp_store 𝒱₀ (c : Thread nD τ) none Set.univ (m := sbM) (r := Rect.unit (s := S4x160x256) ![0, 0, 0] S1x160x256.size inb_S4x160x256_S1x160x256_0_0_0) (Mk := Finset.univ) (Finset.subset_univ _)) $$ Hb; iintro Hb
  have hf := fill_step m ρ c 0 0 rfl ![0, 0, 0] rfl inb_S4x160x256_S1x160x256_0_0_0 _ (k0_pay7 (k0_pay2 (xstg m ρ c)) (k0_pay3 (dstg m ρ c)) (k0_pay4 (dstg m ρ c)) k0_pay5) hf rfl
  iapply (wp_load 𝒱₀ (c : Thread nD τ) none Set.univ (m := sbM) (Finset.subset_univ _)) $$ Hb; iintro Hb
  iapply (wp_store 𝒱₀ (c : Thread nD τ) none Set.univ (m := sbM) (r := Rect.unit (s := S4x160x256) ![1, 0, 0] S1x160x256.size inb_S4x160x256_S1x160x256_1_0_0) (Mk := Finset.univ) (Finset.subset_univ _)) $$ Hb; iintro Hb
  have hf := fill_step m ρ c 1 1 rfl ![1, 0, 0] rfl inb_S4x160x256_S1x160x256_1_0_0 _ (k0_pay8 (k0_pay2 (xstg m ρ c)) (k0_pay3 (dstg m ρ c)) (k0_pay4 (dstg m ρ c)) k0_pay5) hf rfl
  iapply (W_ret c _)
  iapply Hk
  iexists _
  isplitr [Hb]
  · ipureintro; exact hf
  iexact Hb

/-- The blocks for places 2 and 3. -/
theorem part5 (v2 v5 : BitVec 32) {Q : PUnit → sProp 𝕄} :
    iprop(sbAt m ρ c 2 ∗ ((((c : Thread nD τ).loc cc0_scratch1) ↦{fullShare} SB m ρ c) -∗ Q ⟨⟩))
      ⊢ W c (k0_part5 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 v2 v5 (zw c) (k0_pay2 (xstg m ρ c)) (k0_pay3 (dstg m ρ c)) (k0_pay6 (k0_pay4 (F := F) (dstg m ρ c)) k0_pay5)
          (iota .tc S160x512 32 [0] iota_S160x512_d0_w32) (k0_pay9 (k0_pay4 (F := F) (dstg m ρ c)) k0_pay5)) Q := by
  rw [k0_part5_eq_skeleton]; unfold k0_part5_skel
  simp only [semSignalWord, semWaitWord, Prog.lift, Prog.bind_op, Prog.bind_ret, Prog.pure_eq_ret]
  unfold sbAt
  iintro ⟨⟨%f, %hf, Hb⟩, Hk⟩
  iapply (wp_load 𝒱₀ (c : Thread nD τ) none Set.univ (m := sbM) (Finset.subset_univ _)) $$ Hb; iintro Hb
  iapply (wp_store 𝒱₀ (c : Thread nD τ) none Set.univ (m := sbM) (r := Rect.unit (s := S4x160x256) ![2, 0, 0] S1x160x256.size inb_S4x160x256_S1x160x256_2_0_0) (Mk := Finset.univ) (Finset.subset_univ _)) $$ Hb; iintro Hb
  have hf := fill_step m ρ c 2 2 rfl ![2, 0, 0] rfl inb_S4x160x256_S1x160x256_2_0_0 _ (k0_pay10 (k0_pay2 (xstg m ρ c)) (k0_pay3 (dstg m ρ c)) (iota .tc S160x512 32 [0] iota_S160x512_d0_w32) (k0_pay9 (k0_pay4 (F := F) (dstg m ρ c)) k0_pay5)) hf rfl
  iapply (wp_load 𝒱₀ (c : Thread nD τ) none Set.univ (m := sbM) (Finset.subset_univ _)) $$ Hb; iintro Hb
  iapply (wp_store 𝒱₀ (c : Thread nD τ) none Set.univ (m := sbM) (r := Rect.unit (s := S4x160x256) ![3, 0, 0] S1x160x256.size inb_S4x160x256_S1x160x256_3_0_0) (Mk := Finset.univ) (Finset.subset_univ _)) $$ Hb; iintro Hb
  have hf := fill_step m ρ c 3 3 rfl ![3, 0, 0] rfl inb_S4x160x256_S1x160x256_3_0_0 _ (k0_pay11 (k0_pay2 (xstg m ρ c)) (k0_pay3 (dstg m ρ c)) (k0_pay6 (k0_pay4 (F := F) (dstg m ρ c)) k0_pay5) (iota .tc S160x512 32 [0] iota_S160x512_d0_w32)) hf rfl
  have e := filled_four m ρ c _ hf
  iapply (W_ret c _)
  iapply Hk
  ihave Hb := (Entails.of_eq (congrArg (fun g => (((c : Thread nD τ).loc cc0_scratch1) ↦{fullShare} g : sProp 𝕄)) e)) $$ Hb
  iexact Hb

/-- The first two transfers of rows. -/
theorem part6 (v2 v5 : BitVec 32) {Q : PUnit → sProp 𝕄} :
    iprop(records m ρ K ∗ ow c (oB0 c)
        ∗ (sbPts c (zc (fwd 0 c)) (SB m ρ c) ∗ (∃ f, rbPts (fwd 0 c) (zc c) f) ∗ dutyTok ER (kcell (c, kBs 0)) 0 0 ∗ dutyTok ER (kcell (fwd 0 c, kBr (zc c))) 0 0)
        ∗ (sbPts c (zc (fwd 1 c)) (SB m ρ c) ∗ (∃ f, rbPts (fwd 1 c) (zc c) f) ∗ dutyTok ER (kcell (c, kBs 1)) 0 0 ∗ dutyTok ER (kcell (fwd 1 c, kBr (zc c))) 0 0)
        ∗ ((ow c (oB2 c) ∗ crd c (kBs 0) Nb ∗ crd c (kBs 1) Nb) -∗ Q ⟨⟩))
      ⊢ W c (k0_part6 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c)) Q := by
  rw [k0_part6_eq_skeleton]; unfold k0_part6_skel
  simp only [semSignalWord, semWaitWord, Prog.lift, Prog.bind_op, Prog.bind_ret, Prog.pure_eq_ret]
  iintro ⟨#HR, HO, ⟨Hb0, ⟨%f0, Hd0⟩, Hs0, Hr0⟩, ⟨Hb1, ⟨%f1, Hd1⟩, Hs1, Hr1⟩, Hk⟩
  unfold oB0
  iapply (wp_send_rows m ρ K c 0 _ (dev_eq c 0 (k0_dev7_lt c) (k0_dev7_eq c)) _ _ (sem_bs 0 ![0] rfl inb_S3_S1_0) (sem_br (zc c) _ (k0_off2_eq c) (k0_off2_inb c))
    (k0_off4 c) _ (k0_off4_eq c) (off5_at c 0) (k0_off4_inb c) (k0_off5_inb c 0) (oB1 c) f0) $$ [HO Hb0 Hd0 Hs0 Hr0]
  · isplitr; · iexact HR
    isplitl [Hb0]; · iexact Hb0
    isplitl [Hd0]; · iexact Hd0
    isplitl [HO]; · iexact HO
    isplitl [Hs0]; · iexact Hs0
    iexact Hr0
  iintro ⟨Hc0, HO⟩
  unfold oB1
  iapply (wp_send_rows m ρ K c 1 _ (dev_eq c 1 (k0_dev8_lt c) (k0_dev8_eq c)) _ _ (sem_bs 1 ![1] rfl inb_S3_S1_1) (sem_br (zc c) _ (k0_off2_eq c) (k0_off2_inb c))
    (k0_off4 c) _ (k0_off4_eq c) (off5_at c 1) (k0_off4_inb c) (k0_off5_inb c 1) (oB2 c) f1) $$ [HO Hb1 Hd1 Hs1 Hr1]
  · isplitr; · iexact HR
    isplitl [Hb1]; · iexact Hb1
    isplitl [Hd1]; · iexact Hd1
    isplitl [HO]; · iexact HO
    isplitl [Hs1]; · iexact Hs1
    iexact Hr1
  iintro ⟨Hc1, HO⟩
  iapply (W_ret c _)
  iapply Hk
  isplitl [HO]; · iexact HO
  isplitl [Hc0]; · iexact Hc0
  iexact Hc1

/-- The block a device keeps is stored as it is. -/
theorem keep_eq (v : Vec F S1x160x256 .bf16) : k0_pay12 v = v := by unfold k0_pay12; exact funext fun i => congrArg v ((Shape.reshapeEquiv_reshapeEquiv _ _ i).trans (Shape.reshapeEquiv_self _ i))

/-- The third transfer of rows, the device's own block, and the first wait for destinations. -/
theorem part7 (v2 v5 : BitVec 32) {Q : (Σ' (v247 : BitVec 32), BitVec 32) → sProp 𝕄} :
    iprop(records m ρ K ∗ ow c (oB2 c)
        ∗ (sbPts c (zc (fwd 2 c)) (SB m ρ c) ∗ (∃ f, rbPts (fwd 2 c) (zc c) f) ∗ dutyTok ER (kcell (c, kBs 2)) 0 0 ∗ dutyTok ER (kcell (fwd 2 c, kBr (zc c))) 0 0)
        ∗ sbPts c (zc c) (SB m ρ c) ∗ (∃ f, rbPts c (zc c) f) ∗ (crd c (kDr (zc (bwd 0 c))) Nd ∗ at₀ c (kDr (zc (bwd 0 c))))
        ∗ (∀ v247 v249, (ow c 0 ∗ crd c (kBs 2) Nb ∗ sbPts c (zc c) (SB m ρ c) ∗ rbPts c (zc c) (RB m ρ c)
              ∗ semVal (kcell (c, kDr (zc (bwd 0 c)))) 0 ∗ dgPts c (zc (bwd 0 c)) fullShare (DG m ρ c)) -∗ Q ⟨v247, v249⟩))
      ⊢ W c (k0_part7 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c)) Q := by
  rw [k0_part7_eq_skeleton]; unfold k0_part7_skel
  simp only [semSignalWord, semWaitWord, Prog.lift, Prog.bind_op, Prog.bind_ret, Prog.pure_eq_ret]
  iintro ⟨#HR, HO, ⟨Hb2, ⟨%f2, Hd2⟩, Hs2, Hr2⟩, Hb, ⟨%f, Hg⟩, ⟨Hc, Hat⟩, Hk⟩
  unfold oB2
  iapply (wp_send_rows m ρ K c 2 _ (dev_eq c 2 (k0_dev9_lt c) (k0_dev9_eq c)) _ _ (sem_bs 2 ![2] rfl inb_S3_S1_2) (sem_br (zc c) _ (k0_off2_eq c) (k0_off2_inb c))
    (k0_off4 c) _ (k0_off4_eq c) (off5_at c 2) (k0_off4_inb c) (k0_off5_inb c 2) (0) f2) $$ [HO Hb2 Hd2 Hs2 Hr2]
  · isplitr; · iexact HR
    isplitl [Hb2]; · iexact Hb2
    isplitl [Hd2]; · iexact Hd2
    isplitl [HO]; · iexact HO
    isplitl [Hs2]; · iexact Hs2
    iexact Hr2
  iintro ⟨Hc2, HO⟩
  ihave Hb := (Entails.of_eq (show sbPts c (zc c) (SB m ρ c) = (((c : Thread nD τ).loc cc0_scratch1) ↦[(slot (zc c) : Finset S4x160x256.Idx)]{fullShare} SB m ρ c : sProp 𝕄) from rfl)) $$ Hb
  ihave Hg := (Entails.of_eq (show rbPts c (zc c) f = (((c : Thread nD τ).loc cc0_scratch2) ↦[(slot (zc c) : Finset S4x160x256.Idx)]{fullShare} f : sProp 𝕄) from rfl)) $$ Hg
  iapply (wp_load 𝒱₀ (c : Thread nD τ) none Set.univ (m := sbM) (sb_cells (k := zc c) (k0_off6_eq c) (k0_off6_inb c)).subset) $$ Hb; iintro Hb
  rw [sb_read (k := zc c) (k0_off6_eq c) (k0_off6_inb c)]
  iapply (wp_load 𝒱₀ (c : Thread nD τ) none Set.univ (m := rbM) (rb_cells (k := zc c) (k0_off6_eq c) (k0_off6_inb c)).subset) $$ Hg; iintro Hg
  iapply (wp_store 𝒱₀ (c : Thread nD τ) none Set.univ (m := rbM) (Mk := Finset.univ) (rb_stored (k := zc c) (k0_off6_eq c) (k0_off6_inb c)).subset) $$ Hg; iintro Hg
  ihave Hg := (Entails.of_eq (show _ = rbPts c (zc c) (RB m ρ c) from pointsTo_congr fun i hi => by
    obtain ⟨j, rfl⟩ := exists_put hi
    refine (rb_write (k := zc c) (k0_off6_eq c) (k0_off6_inb c) f _ j).trans ?_
    rw [keep_eq]
    unfold RB SB; rw [asm_put, asm_put, mem_zc])) $$ Hg
  iapply (wait_dr m ρ K c 0 _ (sem_dr (zc (bwd 0 c)) _ (off7_at c 0) (k0_off7_inb c 0)) (Nd_eq _ _)) $$ [Hc HO Hat]
  · isplitr; · iexact HR
    isplitl [Hc]; · iexact Hc
    isplitl [HO]; · iexact HO
    iexact Hat
  iintro ⟨HO, Hz0, Hp0⟩
  iapply (W_ret c _)
  unfold sbPts
  iapply Hk
  isplitl [HO]; · iexact HO
  isplitl [Hc2]; · iexact Hc2
  isplitl [Hb]; · iexact Hb
  isplitl [Hg]; · iexact Hg
  isplitl [Hz0]; · iexact Hz0
  iexact Hp0

end Parts

end Cert.KernelIdealProof

end
-- ==== Proof.Ideal.Parts3.lean ====
/-
# The body's end: the rows received and placed

The destinations and the blocks of the three others arrive, the rows are put in order and stored, and
the device's own transfers end.
-/
module

public import proofs.«01_k».proof.Proof.Ideal.Parts2

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The number of rows each device of the group sends here, as the program counts them. -/
def cnt (c : Dev nD) : IVec S4 32 := k0_pay13 (F := F) (zw c) (DG m ρ c)
/-- The block received from place `k`. -/
def blk (c : Dev nD) (k : Fin 4) : Vec F S1x160x256 .bf16 := fun j => RB m ρ c (put k j)

abbrev rowI : IVec S512x160 32 := iota .tc S512x160 32 [0] iota_S512x160_d0_w32
abbrev colI : IVec S512x160 32 := iota .tc S512x160 32 [1] iota_S512x160_d1_w32
def out0 (v : IVec S4 32) (b : Vec F S1x160x256 .bf16) : FVec F S512x256 .f32 := k0_pay14 v b
def pos1 (v : IVec S4 32) : BitVec 32 := Scalar.addi 0#32 (extractAt ![0] (k0_pay15 v) inpos_S1_p0)
def out2 (v : IVec S4 32) (b0 b1 b2 : Vec F S1x160x256 .bf16) : FVec F S512x256 .f32 :=
  k0_pay17 v rowI colI (out0 v b0) (pos1 v) (k0_pay16 v) b1 b2
def hot3 (v : IVec S4 32) : FVec F S512x160 .bf16 := k0_pay18 (F := F) v rowI colI (pos1 v)
/-- The rows the device writes out. -/
def outOf (v : IVec S4 32) (b0 b1 b2 b3 : Vec F S1x160x256 .bf16) : FVec F S512x256 .f32 := k0_pay19 (out2 v b0 b1 b2) (hot3 v) b3
def outAt (c : Dev nD) : FVec F S512x256 .f32 := outOf (cnt m ρ c) (blk m ρ c 0) (blk m ρ c 1) (blk m ρ c 2) (blk m ρ c 3)

section Parts

variable (K : Dev nD × KIx → ℕ) (c : Dev nD)

/-- The whole buffer of destinations, at half the share. -/
abbrev dgR : sProp 𝕄 := ((c : Thread nD τ).loc cc0_scratch0) ↦{fullShare.right} DG m ρ c
abbrev rbW : sProp 𝕄 := ((c : Thread nD τ).loc cc0_scratch2) ↦{fullShare} RB m ρ c

/-- The other destinations arrive; the counts. -/
theorem part8 (v2 v5 v247 v249 : BitVec 32) {Q : (Σ' (v282 : IVec S4 32) (v283 : BitVec 32), BitVec 32) → sProp 𝕄} :
    iprop(records m ρ K ∗ ow c 0 ∗ (crd c (kDr (zc (bwd 1 c))) Nd ∗ at₀ c (kDr (zc (bwd 1 c)))) ∗ (crd c (kDr (zc (bwd 2 c))) Nd ∗ at₀ c (kDr (zc (bwd 2 c))))
        ∗ dgPts c (zc c) fullShare.right (DG m ρ c) ∗ dgPts c (zc (bwd 0 c)) fullShare (DG m ρ c)
        ∗ (∀ v283, (ow c 0 ∗ semVal (kcell (c, kDr (zc (bwd 1 c)))) 0 ∗ semVal (kcell (c, kDr (zc (bwd 2 c)))) 0 ∗ dgR m ρ c
              ∗ dgPts c (zc (bwd 0 c)) fullShare.left (DG m ρ c) ∗ dgPts c (zc (bwd 1 c)) fullShare.left (DG m ρ c) ∗ dgPts c (zc (bwd 2 c)) fullShare.left (DG m ρ c))
            -∗ Q ⟨cnt m ρ c, v283, 4#32⟩))
      ⊢ W c (k0_part8 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c) v247 v249) Q := by
  rw [k0_part8_eq_skeleton]; unfold k0_part8_skel
  simp only [semSignalWord, semWaitWord, Prog.lift, Prog.bind_op, Prog.bind_ret, Prog.pure_eq_ret]
  iintro ⟨#HR, HO, ⟨Hc1, Ha1⟩, ⟨Hc2, Ha2⟩, Hg, Hp0, Hk⟩
  iapply (wait_dr m ρ K c 1 _ (sem_dr (zc (bwd 1 c)) _ (off7_at c 1) (k0_off7_inb c 1)) (Nd_eq _ _)) $$ [Hc1 HO Ha1]
  · isplitr; · iexact HR
    isplitl [Hc1]; · iexact Hc1
    isplitl [HO]; · iexact HO
    iexact Ha1
  iintro ⟨HO, Hz1, Hp1⟩
  iapply (wait_dr m ρ K c 2 _ (sem_dr (zc (bwd 2 c)) _ (off7_at c 2) (k0_off7_inb c 2)) (Nd_eq _ _)) $$ [Hc2 HO Ha2]
  · isplitr; · iexact HR
    isplitl [Hc2]; · iexact Hc2
    isplitl [HO]; · iexact HO
    iexact Ha2
  iintro ⟨HO, Hz2, Hp2⟩
  ihave Hp0 := (dg_halves c _ _).1 $$ Hp0
  ihave Hp1 := (dg_halves c _ _).1 $$ Hp1
  ihave Hp2 := (dg_halves c _ _).1 $$ Hp2
  icases Hp0 with ⟨Hl0, Hr0⟩
  icases Hp1 with ⟨Hl1, Hr1⟩
  icases Hp2 with ⟨Hl2, Hr2⟩
  ihave Hg := (Entails.of_eq (dg_bwd c fullShare.right (DG m ρ c)).symm) $$ [Hg Hr0 Hr1 Hr2]
  · isplitl [Hg]; · iexact Hg
    isplitl [Hr0]; · iexact Hr0
    isplitl [Hr1] <;> iassumption
  iapply (wp_load 𝒱₀ (c : Thread nD τ) none Set.univ (m := dgM) (Finset.subset_univ _)) $$ Hg; iintro Hg
  rw [show dgM.view.readAt (Elt F) (Rect.unit (s := S4x1x512) ![0, 0, 0] S4x1x512.size inb_S4x1x512_S4x1x512_0_0_0).toLoadRect (DG m ρ c) = DG m ρ c from
    Memref.readAt_unit_zero (Elt F) cc0_scratch0 hz3 _ _]
  iapply (W_ret c _)
  unfold cnt
  iapply Hk
  isplitl [HO]; · iexact HO
  isplitl [Hz1]; · iexact Hz1
  isplitl [Hz2]; · iexact Hz2
  isplitl [Hg]; · iexact Hg
  isplitl [Hl0]; · iexact Hl0
  isplitl [Hl1]; · iexact Hl1
  iexact Hl2

/-- Two of the blocks arrive. -/
theorem part9 (v2 v5 v283 w : BitVec 32) {Q : BitVec 32 → sProp 𝕄} :
    iprop(records m ρ K ∗ ow c 0 ∗ (crd c (kBr (zc (bwd 0 c))) Nb ∗ at₀ c (kBr (zc (bwd 0 c)))) ∗ (crd c (kBr (zc (bwd 1 c))) Nb ∗ at₀ c (kBr (zc (bwd 1 c))))
        ∗ (∀ v315, (ow c 0 ∗ semVal (kcell (c, kBr (zc (bwd 0 c)))) 0 ∗ semVal (kcell (c, kBr (zc (bwd 1 c)))) 0
              ∗ rbPts c (zc (bwd 0 c)) (RB m ρ c) ∗ rbPts c (zc (bwd 1 c)) (RB m ρ c)) -∗ Q v315))
      ⊢ W c (k0_part9 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (zw c) v283 w) Q := by
  rw [k0_part9_eq_skeleton]; unfold k0_part9_skel
  simp only [semSignalWord, semWaitWord, Prog.lift, Prog.bind_op, Prog.bind_ret, Prog.pure_eq_ret]
  iintro ⟨#HR, HO, ⟨Hc0, Ha0⟩, ⟨Hc1, Ha1⟩, Hk⟩
  iapply (wait_br m ρ K c 0 _ (sem_br (zc (bwd 0 c)) _ (off7_at c 0) (k0_off7_inb c 0)) (Nb_eq _ _)) $$ [Hc0 HO Ha0]
  · isplitr; · iexact HR
    isplitl [Hc0]; · iexact Hc0
    isplitl [HO]; · iexact HO
    iexact Ha0
  iintro ⟨HO, Hz0, Hp0⟩
  iapply (wait_br m ρ K c 1 _ (sem_br (zc (bwd 1 c)) _ (off7_at c 1) (k0_off7_inb c 1)) (Nb_eq _ _)) $$ [Hc1 HO Ha1]
  · isplitr; · iexact HR
    isplitl [Hc1]; · iexact Hc1
    isplitl [HO]; · iexact HO
    iexact Ha1
  iintro ⟨HO, Hz1, Hp1⟩
  iapply (W_ret c _)
  iapply Hk
  isplitl [HO]; · iexact HO
  isplitl [Hz0]; · iexact Hz0
  isplitl [Hz1]; · iexact Hz1
  isplitl [Hp0]; · iexact Hp0
  iexact Hp1

/-- The last block arrives; the rows from place 0. -/
theorem part10 (v2 v5 v315 : BitVec 32) {Q : (Σ' (v328 : IVec S512x160 32) (v329 : IVec S512x160 32) (v346 : FVec F S512x256 .f32) (v349 : BitVec 32), IVec S512x160 1) → sProp 𝕄} :
    iprop(records m ρ K ∗ ow c 0 ∗ (crd c (kBr (zc (bwd 2 c))) Nb ∗ at₀ c (kBr (zc (bwd 2 c))))
        ∗ rbPts c (zc c) (RB m ρ c) ∗ rbPts c (zc (bwd 0 c)) (RB m ρ c) ∗ rbPts c (zc (bwd 1 c)) (RB m ρ c)
        ∗ ((ow c 0 ∗ semVal (kcell (c, kBr (zc (bwd 2 c)))) 0 ∗ rbW m ρ c)
            -∗ Q ⟨rowI, colI, out0 (cnt m ρ c) (blk m ρ c 0), pos1 (cnt m ρ c), k0_pay16 (cnt m ρ c)⟩))
      ⊢ W c (k0_part10 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c v2 v5 (cnt m ρ c) v315) Q := by
  rw [k0_part10_eq_skeleton]; unfold k0_part10_skel
  simp only [semSignalWord, semWaitWord, Prog.lift, Prog.bind_op, Prog.bind_ret, Prog.pure_eq_ret]
  iintro ⟨#HR, HO, ⟨Hc2, Ha2⟩, Hg, Hp0, Hp1, Hk⟩
  iapply (wait_br m ρ K c 2 _ (sem_br (zc (bwd 2 c)) _ (off7_at c 2) (k0_off7_inb c 2)) (Nb_eq _ _)) $$ [Hc2 HO Ha2]
  · isplitr; · iexact HR
    isplitl [Hc2]; · iexact Hc2
    isplitl [HO]; · iexact HO
    iexact Ha2
  iintro ⟨HO, Hz2, Hp2⟩
  ihave Hg := (Entails.of_eq (rb_bwd c (RB m ρ c)).symm) $$ [Hg Hp0 Hp1 Hp2]
  · isplitl [Hg]; · iexact Hg
    isplitl [Hp0]; · iexact Hp0
    isplitl [Hp1] <;> iassumption
  iapply (wp_load 𝒱₀ (c : Thread nD τ) none Set.univ (m := rbM) (Finset.subset_univ _)) $$ Hg; iintro Hg
  rw [rb_read (k := 0) (off := ![0, 0, 0]) rfl inb_S4x160x256_S1x160x256_0_0_0 (RB m ρ c)]
  iapply (W_ret c _)
  unfold out0 pos1 blk
  iapply Hk
  isplitl [HO]; · iexact HO
  isplitl [Hz2]; · iexact Hz2
  iexact Hg

/-- The rows from the other places. -/
theorem part11 {Q : (Σ' (v384 : FVec F S512x256 .f32) (v399 : FVec F S512x160 .bf16), Vec F S1x160x256 .bf16) → sProp 𝕄} :
    iprop(rbW m ρ c ∗ (rbW m ρ c -∗ Q ⟨out2 (cnt m ρ c) (blk m ρ c 0) (blk m ρ c 1) (blk m ρ c 2), hot3 (cnt m ρ c), blk m ρ c 3⟩))
      ⊢ W c (k0_part11 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 (cnt m ρ c) rowI colI (out0 (cnt m ρ c) (blk m ρ c 0)) (pos1 (cnt m ρ c)) (k0_pay16 (cnt m ρ c))) Q := by
  rw [k0_part11_eq_skeleton]; unfold k0_part11_skel
  simp only [semSignalWord, semWaitWord, Prog.lift, Prog.bind_op, Prog.bind_ret, Prog.pure_eq_ret]
  iintro ⟨Hg, Hk⟩
  iapply (wp_load 𝒱₀ (c : Thread nD τ) none Set.univ (m := rbM) (Finset.subset_univ _)) $$ Hg; iintro Hg
  rw [rb_read (k := 1) (off := ![1, 0, 0]) rfl inb_S4x160x256_S1x160x256_1_0_0 (RB m ρ c)]
  iapply (wp_load 𝒱₀ (c : Thread nD τ) none Set.univ (m := rbM) (Finset.subset_univ _)) $$ Hg; iintro Hg
  rw [rb_read (k := 2) (off := ![2, 0, 0]) rfl inb_S4x160x256_S1x160x256_2_0_0 (RB m ρ c)]
  iapply (wp_load 𝒱₀ (c : Thread nD τ) none Set.univ (m := rbM) (Finset.subset_univ _)) $$ Hg; iintro Hg
  rw [rb_read (k := 3) (off := ![3, 0, 0]) rfl inb_S4x160x256_S1x160x256_3_0_0 (RB m ρ c)]
  iapply (W_ret c _)
  unfold out2 hot3 blk
  iapply Hk
  iexact Hg

/-- The result is stored; the device's own transfers end. -/
theorem part12 {Q : PUnit → sProp 𝕄} (f : S512x256.Idx → Elt F .f32) :
    iprop(records m ρ K ∗ ow c 0 ∗ (((c : Thread nD τ).loc cc0_stg2_0) ↦{fullShare} f)
        ∗ (crd c (kDs 0) Nd ∗ at₀ c (kDs 0)) ∗ (crd c (kDs 1) Nd ∗ at₀ c (kDs 1)) ∗ (crd c (kDs 2) Nd ∗ at₀ c (kDs 2)) ∗ (crd c (kBs 0) Nb ∗ at₀ c (kBs 0))
        ∗ ((ow c 0 ∗ (((c : Thread nD τ).loc cc0_stg2_0) ↦{fullShare} outAt m ρ c)
            ∗ (semVal (kcell (c, kDs 0)) 0 ∗ dgPts c (zc c) (lent 0) (DG m ρ c)) ∗ (semVal (kcell (c, kDs 1)) 0 ∗ dgPts c (zc c) (lent 1) (DG m ρ c))
            ∗ (semVal (kcell (c, kDs 2)) 0 ∗ dgPts c (zc c) (lent 2) (DG m ρ c)) ∗ (semVal (kcell (c, kBs 0)) 0 ∗ sbPts c (zc (fwd 0 c)) (SB m ρ c))) -∗ Q ⟨⟩))
      ⊢ W c (k0_part12 xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6 c (out2 (cnt m ρ c) (blk m ρ c 0) (blk m ρ c 1) (blk m ρ c 2)) (hot3 (cnt m ρ c)) (blk m ρ c 3)) Q := by
  rw [k0_part12_eq_skeleton]; unfold k0_part12_skel
  simp only [semSignalWord, semWaitWord, Prog.lift, Prog.bind_op, Prog.bind_ret, Prog.pure_eq_ret]
  iintro ⟨#HR, HO, Ho, ⟨Hc0, Ha0⟩, ⟨Hc1, Ha1⟩, ⟨Hc2, Ha2⟩, ⟨Hc3, Ha3⟩, Hk⟩
  iapply (wp_load 𝒱₀ (c : Thread nD τ) none Set.univ (m := oM) (Finset.subset_univ _)) $$ Ho; iintro Ho
  iapply (wp_store 𝒱₀ (c : Thread nD τ) none Set.univ (m := oM) (r := Rect.unit (s := S512x256) ![0, 0] S512x256.size inb_S512x256_S512x256_0_0) (Mk := Finset.univ) (Finset.subset_univ _)) $$ Ho; iintro Ho
  ihave Ho := (Entails.of_eq (show ((View.loc (c : Thread nD τ) (oM.access (Rect.unit (s := S512x256) ![0, 0] S512x256.size inb_S512x256_S512x256_0_0))) ↦{fullShare}
        View.write (Elt F) (oM.access (Rect.unit (s := S512x256) ![0, 0] S512x256.size inb_S512x256_S512x256_0_0)) f
          (k0_pay19 (out2 (cnt m ρ c) (blk m ρ c 0) (blk m ρ c 1) (blk m ρ c 2)) (hot3 (cnt m ρ c)) (blk m ρ c 3)) Finset.univ : sProp 𝕄)
      = (((c : Thread nD τ).loc cc0_stg2_0) ↦{fullShare} outAt m ρ c) from
    congrArg (fun g => (((c : Thread nD τ).loc cc0_stg2_0) ↦{fullShare} g : sProp 𝕄))
      (Memref.write_access_unit_zero_univ (Elt F) cc0_stg2_0 hz2 inb_S512x256_S512x256_0_0 f _))) $$ Ho
  iapply (wait_ds m ρ K c 0 _ (sem_ds 0 ![0] rfl inb_S3_S1_0) (Nd_eq _ _)) $$ [Hc0 HO Ha0]
  · isplitr; · iexact HR
    isplitl [Hc0]; · iexact Hc0
    isplitl [HO]; · iexact HO
    iexact Ha0
  iintro ⟨HO, Hz0, Hp0⟩
  iapply (wait_ds m ρ K c 1 _ (sem_ds 1 ![1] rfl inb_S3_S1_1) (Nd_eq _ _)) $$ [Hc1 HO Ha1]
  · isplitr; · iexact HR
    isplitl [Hc1]; · iexact Hc1
    isplitl [HO]; · iexact HO
    iexact Ha1
  iintro ⟨HO, Hz1, Hp1⟩
  iapply (wait_ds m ρ K c 2 _ (sem_ds 2 ![2] rfl inb_S3_S1_2) (Nd_eq _ _)) $$ [Hc2 HO Ha2]
  · isplitr; · iexact HR
    isplitl [Hc2]; · iexact Hc2
    isplitl [HO]; · iexact HO
    iexact Ha2
  iintro ⟨HO, Hz2, Hp2⟩
  iapply (wait_bs m ρ K c 0 _ (sem_bs 0 ![0] rfl inb_S3_S1_0) (Nb_eq' _ _)) $$ [Hc3 HO Ha3]
  · isplitr; · iexact HR
    isplitl [Hc3]; · iexact Hc3
    isplitl [HO]; · iexact HO
    iexact Ha3
  iintro ⟨HO, Hz3, Hp3⟩
  iapply (W_ret c _)
  iapply Hk
  isplitl [HO]; · iexact HO
  isplitl [Ho]; · iexact Ho
  isplitl [Hz0 Hp0]; · isplitl [Hz0] <;> iassumption
  isplitl [Hz1 Hp1]; · isplitl [Hz1] <;> iassumption
  isplitl [Hz2 Hp2]; · isplitl [Hz2] <;> iassumption
  isplitl [Hz3] <;> iassumption

end Parts

end Cert.KernelIdealProof

end
-- ==== Proof.Ideal.Body.lean ====
/-
# The body of the exchange, whole

The parts put together: a device starts with its tokens, its credit and its scratch buffers, and ends with
its rows written out, its buffers whole and its semaphores at zero.
-/
module

public import proofs.«01_k».proof.Proof.Ideal.Parts3

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Slot `k` of both buffers the others write, ready to be handed over. -/
theorem handed_intro (c : Dev nD) (k : Fin 4) (f g) : iprop(dgPts c k fullShare f ∗ rbPts c k g) ⊢ (handed (F := F) c k : sProp 𝕄) := by
  unfold handed
  iintro ⟨H, G⟩
  isplitl [H]
  · iexists f; iexact H
  iexists g; iexact G

/-- The exchange's own semaphores, at the order in which a device closes them. -/
def closed (c : Dev nD) : List Own :=
  [.inl 0, .inl 1, .inl 2, .inr (.inl (zc c)), .inr (.inl (zc (bwd 0 c))), .inr (.inl (zc (bwd 1 c))), .inr (.inl (zc (bwd 2 c))),
    .inr (.inr (.inl 0)), .inr (.inr (.inl 1)), .inr (.inr (.inl 2)),
    .inr (.inr (.inr (zc c))), .inr (.inr (.inr (zc (bwd 0 c)))), .inr (.inr (.inr (zc (bwd 1 c)))), .inr (.inr (.inr (zc (bwd 2 c))))]

theorem closed_nodup (c : Dev nD) : (closed c).Nodup := by revert c; decide +kernel
theorem closed_all (c : Dev nD) : (Finset.univ : Finset Own) = (closed c).toFinset := by revert c; decide +kernel

/-- The three scratch buffers, whatever they hold. -/
def scr (c : Dev nD) : sProp 𝕄 :=
  iprop((∃ f : S4x1x512.Idx → Elt F .i32, ((c : Thread nD τ).loc cc0_scratch0) ↦{fullShare} f)
    ∗ (∃ f : S4x160x256.Idx → Elt F .bf16, ((c : Thread nD τ).loc cc0_scratch1) ↦{fullShare} f)
    ∗ ∃ f : S4x160x256.Idx → Elt F .bf16, ((c : Thread nD τ).loc cc0_scratch2) ↦{fullShare} f)

def ownZ (c : Dev nD) : sProp 𝕄 := bigSep Finset.univ fun o : Own => (semVal (kcell (c, .inr o)) 0 : sProp 𝕄)

def Φ₁ (c : Dev nD) : sProp 𝕄 := iprop(scr (F := F) c ∗ ownZ c ∗ semVal (kcell (c, kBar)) 0)

theorem ownZ_eq (c : Dev nD) : (ownZ c : sProp 𝕄) = iprop(semVal (kcell (c, kDs 0)) 0 ∗ semVal (kcell (c, kDs 1)) 0 ∗ semVal (kcell (c, kDs 2)) 0
        ∗ semVal (kcell (c, kDr (zc c))) 0 ∗ semVal (kcell (c, kDr (zc (bwd 0 c)))) 0 ∗ semVal (kcell (c, kDr (zc (bwd 1 c)))) 0 ∗ semVal (kcell (c, kDr (zc (bwd 2 c)))) 0
        ∗ semVal (kcell (c, kBs 0)) 0 ∗ semVal (kcell (c, kBs 1)) 0 ∗ semVal (kcell (c, kBs 2)) 0
        ∗ semVal (kcell (c, kBr (zc c))) 0 ∗ semVal (kcell (c, kBr (zc (bwd 0 c)))) 0 ∗ semVal (kcell (c, kBr (zc (bwd 1 c)))) 0 ∗ semVal (kcell (c, kBr (zc (bwd 2 c)))) 0) :=
  (bigSep_univ_eq_bigSepL (closed c) (closed_all c) (closed_nodup c) _).trans rfl

/-- The device's own slot of the destinations, whole again. -/
theorem own_slot (c : Dev nD) (k : Fin 4) (f : S4x1x512.Idx → Elt F .i32) :
    iprop(dgPts c k (lent 0) f ∗ dgPts c k (lent 1) f ∗ dgPts c k (lent 2) f) ⊢ (dgPts c k fullShare.left f : sProp 𝕄) := by
  rw [← dg_lent]

/-- A program in sequence: the first part, then the rest from what it returns. -/
theorem W_bind (c : Dev nD) {α β : Type} (p : Prog (TpuEff nD τ sig (Elt F) Λ₀ .tc) α) (k : α → Prog (TpuEff nD τ sig (Elt F) Λ₀ .tc) β) {Q : β → sProp 𝕄} :
    W c p (fun a => W c (k a) Q) ⊢ W c (p >>= k) Q := by
  unfold W; rw [wp_bind]

set_option maxHeartbeats 1000000 in
/-- The whole body: from what a device starts with to its result, with every semaphore at zero. -/
theorem sound_body (K : Dev nD × KIx → ℕ) (c : Dev nD) {Q : PUnit → sProp 𝕄} :
    iprop(ghost m ρ K c ∗ (crd c kBar 3 ∗ credits c 0 ∗ credits c 1 ∗ credits c 2) ∗ levAts L lv ∗ scr c ∗ ow c (O₀ c)
        ∗ xPts m ρ c ∗ dPts m ρ c ∗ (∃ f : S512x256.Idx → Elt F .f32, ((c : Thread nD τ).loc cc0_stg2_0) ↦{fullShare} f)
        ∗ ((ow c 0 ∗ xPts m ρ c ∗ dPts m ρ c ∗ (((c : Thread nD τ).loc cc0_stg2_0) ↦{fullShare} outAt m ρ c) ∗ Φ₁ c) -∗ Q ⟨⟩))
      ⊢ W c (cc0_body xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6) Q := by
  rw [cc0_body_eq_skeleton]; unfold cc0_body_skel ghost linear side payTok credits scr
  iintro ⟨⟨#HR, HaB, ⟨HaD, HaE⟩, ⟨⟨Ht0, Hu0, Hv0, Hw0, Hy0⟩, Ha0, Hb0, Hd0, He0⟩, ⟨⟨Ht1, Hu1, Hv1, Hw1, Hy1⟩, Ha1, Hb1, Hd1, He1⟩, ⟨Ht2, Hu2, Hv2, Hw2, Hy2⟩, Ha2, Hb2, Hd2, He2⟩,
    ⟨HcB, ⟨Hm0, Hn0⟩, ⟨Hm1, Hn1⟩, Hm2, Hn2⟩, #HL, ⟨⟨%f0, Hg⟩, ⟨%f1, Hsb⟩, %f2, Hrb⟩, HO, Hx, Hd, ⟨%fo, Ho⟩, Hk⟩
  ihave Hg := (Entails.of_eq (dg_fwd c fullShare f0)) $$ Hg
  icases Hg with ⟨Hg, Hg0, Hg1, Hg2⟩
  ihave Hrb := (Entails.of_eq (rb_fwd c f2)) $$ Hrb
  icases Hrb with ⟨Hrb, Hrb0, Hrb1, Hrb2⟩
  iapply (W_bind c _ _)
  iapply (part1 m ρ K c)
  isplitr; · iexact HR
  isplitl [HO]; · iexact HO
  isplitl [Ht0 Hg0 Hrb0]
  · isplitl [Ht0]; · iexact Ht0
    iapply (handed_intro c (zc (fwd 0 c)) f0 f2); isplitl [Hg0] <;> iassumption
  isplitl [Ht1 Hg1 Hrb1]
  · isplitl [Ht1]; · iexact Ht1
    iapply (handed_intro c (zc (fwd 1 c)) f0 f2); isplitl [Hg1] <;> iassumption
  iintro %v2 %v5 %v27 %v29 %v30 HO
  try dsimp only
  iapply (W_bind c _ _)
  iapply (part2 m ρ K c v2 v5 v27 v29 v30)
  isplitr; · iexact HR
  isplitr; · iexact HL
  isplitl [HO]; · iexact HO
  isplitl [Ht2 Hg2 Hrb2]
  · isplitl [Ht2]; · iexact Ht2
    iapply (handed_intro c (zc (fwd 2 c)) f0 f2); isplitl [Hg2] <;> iassumption
  isplitl [HcB HaB]
  · isplitl [HcB]; · iexact HcB
    iexact HaB
  isplitl [Hd]; · iexact Hd
  isplitl [Hg]; · iexists f0; iexact Hg
  isplitl [Hu0 Hv0]
  · isplitl [Hu0]; · iexact Hu0
    iexact Hv0
  iintro %v58 %v62 ⟨HO, HzB, Hd, Hp0, Hq0, Hh1, Hh2, Hl1, Hl2, Hright⟩
  try dsimp only
  unfold handed
  icases Hh1 with ⟨Hi1, Hq1⟩
  icases Hh2 with ⟨Hi2, Hq2⟩
  iapply (W_bind c _ _)
  iapply (part3 m ρ K c v2 v5 v58 v62 1#32)
  isplitr; · iexact HR
  isplitl [HO]; · iexact HO
  isplitl [Hx]; · iexact Hx
  isplitl [Hd]; · iexact Hd
  isplitl [Hl1 Hi1 Hu1 Hv1]
  · isplitl [Hl1]; · iexact Hl1
    isplitl [Hi1]; · iexact Hi1
    isplitl [Hu1]; · iexact Hu1
    iexact Hv1
  isplitl [Hl2 Hi2 Hu2 Hv2]
  · isplitl [Hl2]; · iexact Hl2
    isplitl [Hi2]; · iexact Hi2
    isplitl [Hu2]; · iexact Hu2
    iexact Hv2
  iintro ⟨HO, Hx, Hd, Hp1, Hp2⟩
  try dsimp only
  iapply (W_bind c _ _)
  iapply (part4 m ρ c)
  isplitl [Hsb]
  · unfold sbAt; iexists f1; isplitr; · ipureintro; exact filled_zero m ρ c f1
    iexact Hsb
  iintro Hsb
  try dsimp only
  iapply (W_bind c _ _)
  iapply (part5 m ρ c v2 v5)
  isplitl [Hsb]; · iexact Hsb
  iintro Hsb
  try dsimp only
  ihave Hsb := (Entails.of_eq (sb_fwd c (SB m ρ c))) $$ Hsb
  icases Hsb with ⟨Hsb, Hsb0, Hsb1, Hsb2⟩
  iapply (W_bind c _ _)
  iapply (part6 m ρ K c v2 v5)
  isplitr; · iexact HR
  isplitl [HO]; · iexact HO
  isplitl [Hsb0 Hq0 Hw0 Hy0]
  · isplitl [Hsb0]; · iexact Hsb0
    isplitl [Hq0]; · iexact Hq0
    isplitl [Hw0]; · iexact Hw0
    iexact Hy0
  isplitl [Hsb1 Hq1 Hw1 Hy1]
  · isplitl [Hsb1]; · iexact Hsb1
    isplitl [Hq1]; · iexact Hq1
    isplitl [Hw1]; · iexact Hw1
    iexact Hy1
  iintro ⟨HO, Hr0, Hr1⟩
  try dsimp only
  iapply (W_bind c _ _)
  iapply (part7 m ρ K c v2 v5)
  isplitr; · iexact HR
  isplitl [HO]; · iexact HO
  isplitl [Hsb2 Hq2 Hw2 Hy2]
  · isplitl [Hsb2]; · iexact Hsb2
    isplitl [Hq2]; · iexact Hq2
    isplitl [Hw2]; · iexact Hw2
    iexact Hy2
  isplitl [Hsb]; · iexact Hsb
  isplitl [Hrb]; · iexists f2; iexact Hrb
  isplitl [Hm0 Hd0]
  · isplitl [Hm0]; · iexact Hm0
    iexact Hd0
  iintro %v247 %v249 ⟨HO, Hr2, Hsb, Hrb, Hzd0, Hf0⟩
  try dsimp only
  iapply (W_bind c _ _)
  iapply (part8 m ρ K c v2 v5 v247 v249)
  isplitr; · iexact HR
  isplitl [HO]; · iexact HO
  isplitl [Hm1 Hd1]
  · isplitl [Hm1]; · iexact Hm1
    iexact Hd1
  isplitl [Hm2 Hd2]
  · isplitl [Hm2]; · iexact Hm2
    iexact Hd2
  isplitl [Hright]; · iexact Hright
  isplitl [Hf0]; · iexact Hf0
  iintro %v283 ⟨HO, Hzd1, Hzd2, HgR, Hf0, Hf1, Hf2⟩
  try dsimp only
  iapply (W_bind c _ _)
  iapply (part9 m ρ K c v2 v5 v283 4#32)
  isplitr; · iexact HR
  isplitl [HO]; · iexact HO
  isplitl [Hn0 He0]
  · isplitl [Hn0]; · iexact Hn0
    iexact He0
  isplitl [Hn1 He1]
  · isplitl [Hn1]; · iexact Hn1
    iexact He1
  iintro %v315 ⟨HO, Hze0, Hze1, Hk0, Hk1⟩
  try dsimp only
  iapply (W_bind c _ _)
  iapply (part10 m ρ K c v2 v5 v315)
  isplitr; · iexact HR
  isplitl [HO]; · iexact HO
  isplitl [Hn2 He2]
  · isplitl [Hn2]; · iexact Hn2
    iexact He2
  isplitl [Hrb]; · iexact Hrb
  isplitl [Hk0]; · iexact Hk0
  isplitl [Hk1]; · iexact Hk1
  iintro ⟨HO, Hze2, Hrb⟩
  try dsimp only
  iapply (W_bind c _ _)
  iapply (part11 m ρ c)
  isplitl [Hrb]; · iexact Hrb
  iintro Hrb
  try dsimp only
  iapply (W_bind c _ _)
  iapply (part12 m ρ K c fo)
  isplitr; · iexact HR
  isplitl [HO]; · iexact HO
  isplitl [Ho]; · iexact Ho
  isplitl [Hp0 Ha0]
  · isplitl [Hp0]; · iexact Hp0
    iexact Ha0
  isplitl [Hp1 Ha1]
  · isplitl [Hp1]; · iexact Hp1
    iexact Ha1
  isplitl [Hp2 Ha2]
  · isplitl [Hp2]; · iexact Hp2
    iexact Ha2
  isplitl [Hr0 Hb0]
  · isplitl [Hr0]; · iexact Hr0
    iexact Hb0
  iintro ⟨HO, Ho, ⟨Hza0, Hl0⟩, ⟨Hza1, Hl1⟩, ⟨Hza2, Hl2⟩, Hzb0, Hsb0⟩
  try dsimp only
  simp only [Prog.lift, Prog.bind_op, Prog.bind_ret, Prog.pure_eq_ret]
  iapply (wait_bs m ρ K c 1 _ (sem_bs 1 ![1] rfl inb_S3_S1_1) (Nb_eq' _ _)) $$ [Hr1 HO Hb1]
  · isplitr; · iexact HR
    isplitl [Hr1]; · iexact Hr1
    isplitl [HO]; · iexact HO
    iexact Hb1
  iintro ⟨HO, Hzb1, Hsb1⟩
  iapply (wait_bs m ρ K c 2 _ (sem_bs 2 ![2] rfl inb_S3_S1_2) (Nb_eq' _ _)) $$ [Hr2 HO Hb2]
  · isplitr; · iexact HR
    isplitl [Hr2]; · iexact Hr2
    isplitl [HO]; · iexact HO
    iexact Hb2
  iintro ⟨HO, Hzb2, Hsb2⟩
  ihave Hl := (own_slot c (zc c) (DG m ρ c)) $$ [Hl0 Hl1 Hl2]
  · isplitl [Hl0]; · iexact Hl0
    isplitl [Hl1] <;> iassumption
  ihave HgL := (Entails.of_eq (dg_bwd c fullShare.left (DG m ρ c)).symm) $$ [Hl Hf0 Hf1 Hf2]
  · isplitl [Hl]; · iexact Hl
    isplitl [Hf0]; · iexact Hf0
    isplitl [Hf1] <;> iassumption
  ihave Hg := (pointsTo_share (ℓ := (c : Thread nD τ).loc cc0_scratch0) (PosShare.mem_left_op_right fullShare)).2 $$ [HgL HgR]
  · isplitl [HgL] <;> iassumption
  ihave Hsb := (Entails.of_eq (sb_fwd c (SB m ρ c)).symm) $$ [Hsb Hsb0 Hsb1 Hsb2]
  · isplitl [Hsb]; · iexact Hsb
    isplitl [Hsb0]; · iexact Hsb0
    isplitl [Hsb1] <;> iassumption
  imod (close_own m ρ K c (kDr (zc c)) (if_pos rfl)) $$ [HaD] with HzD
  · isplitr; · iexact HR
    iexact HaD
  imod (close_own m ρ K c (kBr (zc c)) (if_pos rfl)) $$ [HaE] with HzE
  · isplitr; · iexact HR
    iexact HaE
  iapply (W_ret c _)
  iapply Hk
  isplitl [HO]; · iexact HO
  isplitl [Hx]; · iexact Hx
  isplitl [Hd]; · iexact Hd
  isplitl [Ho]; · iexact Ho
  unfold Φ₁ scr
  isplitl [Hg Hsb Hrb]
  · isplitl [Hg]
    · iexists _; iexact Hg
    isplitl [Hsb]
    · iexists _; iexact Hsb
    iexists _; iexact Hrb
  isplitr [HzB]
  · rw [ownZ_eq]
    isplitl [Hza0]; · iexact Hza0
    isplitl [Hza1]; · iexact Hza1
    isplitl [Hza2]; · iexact Hza2
    isplitl [HzD]; · iexact HzD
    isplitl [Hzd0]; · iexact Hzd0
    isplitl [Hzd1]; · iexact Hzd1
    isplitl [Hzd2]; · iexact Hzd2
    isplitl [Hzb0]; · iexact Hzb0
    isplitl [Hzb1]; · iexact Hzb1
    isplitl [Hzb2]; · iexact Hzb2
    isplitl [HzE]; · iexact HzE
    isplitl [Hze0]; · iexact Hze0
    isplitl [Hze1]; · iexact Hze1
    iexact Hze2
  iexact HzB

end Cert.KernelIdealProof

end
-- ==== Proof.Ideal.Deal.lean ====
/-
# Dealing out the exchange's ghost state

At launch every semaphore of the exchange gets its invariant, its position and its duties' tokens.
The tokens are minted with the device that owns the semaphore and dealt to the device that pays.
-/
module

public import proofs.«01_k».proof.Proof.Ideal.Body

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens -/

theorem ownSemFacts : Pipeline.OwnSemFacts cfg0.spec osem := by decide +kernel

theorem kcell_injective : Function.Injective (kcell : Dev nD × KIx → GSem nD τ sig) := by
  rintro ⟨c, k⟩ ⟨c', k'⟩ h
  obtain rfl : c = c' := congrArg (fun g : GSem nD τ sig => g.1.1) h
  have h2 := congrArg (fun g : GSem nD τ sig => kind g.2) h
  rw [show kind (kcell (c, k)).2 = some k from kind_csem k, show kind (kcell (c, k')).2 = some k' from kind_csem k'] at h2
  rw [Option.some.inj h2]

def exchCells : Finset (GSem nD τ sig) := Finset.univ.map ⟨kcell, kcell_injective⟩

/-- Of the five duties a device's semaphores have towards the device `bwd r c` that pays (or, for its sends, towards
    itself): the semaphore and the duty's name. -/
def dutyAt (c : Dev nD) : Fin 3 × Fin 5 → KIx × Fin 3
  | (r, 0) => (kBar, r)
  | (r, 1) => (kDs r, 0)
  | (r, 2) => (kDr (zc (bwd r c)), 0)
  | (r, 3) => (kBs r, 0)
  | (r, 4) => (kBr (zc (bwd r c)), 0)

theorem dutyAt_inj (c : Dev nD) : ∀ j j', dutyAt c j = dutyAt c j' → j = j' := by revert c; decide +kernel

def tokAt (cj : Dev nD × (Fin 3 × Fin 5)) : GSem nD τ sig × ℕ × Fin 3 := (kcell (cj.1, (dutyAt cj.1 cj.2).1), 0, (dutyAt cj.1 cj.2).2)

theorem tokAt_injective : Function.Injective tokAt := by
  rintro ⟨c, j⟩ ⟨c', j'⟩ h
  have h1 := kcell_injective (congrArg (fun x : GSem nD τ sig × ℕ × Fin 3 => x.1) h)
  obtain rfl : c = c' := congrArg Prod.fst h1
  have h2 : dutyAt c j = dutyAt c j' := Prod.ext (congrArg Prod.snd h1) (congrArg (fun x : GSem nD τ sig × ℕ × Fin 3 => x.2.2) h)
  rw [dutyAt_inj c j j' h2]

def exchToks : Finset (GSem nD τ sig × ℕ × Fin 3) := Finset.univ.map ⟨tokAt, tokAt_injective⟩

def u₀ : UU := (initOf (Pipeline.cells cfgs cellOf_inj) (Pipeline.launchToks cfgs cellOf_inj), initOf exchCells exchToks)

/-- The tokens of device `c`'s own semaphores, of the duties numbered `r`. -/
def minted (c : Dev nD) (r : Fin 3) : sProp 𝕄 :=
  iprop(dutyTok ER (kcell (c, kBar)) 0 r ∗ dutyTok ER (kcell (c, kDs r)) 0 0 ∗ dutyTok ER (kcell (c, kDr (zc (bwd r c)))) 0 0
    ∗ dutyTok ER (kcell (c, kBs r)) 0 0 ∗ dutyTok ER (kcell (c, kBr (zc (bwd r c)))) 0 0)

theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What the launch gives device `c`: its semaphores at their first round, their positions and their tokens. -/
def G (c : Dev nD) : sProp 𝕄 :=
  iprop((bigSep Finset.univ fun k : KIx => roundState ER (sched m ρ) (kcell (c, k)) 0)
    ∗ (bigSep Finset.univ fun k : KIx => iprop(at₀ c k ∗ reached ER (kcell (c, k)) 0)) ∗ bigSep Finset.univ fun r : Fin 3 => minted c r)

def G' (c : Dev nD) : sProp 𝕄 := iprop(∃ K, ghost m ρ K c)

theorem fund : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun k : KIx => Φ (kcell (c, k)) := by
    unfold exchCells; rw [bigSep_map, bigSep_univ_prod]; rfl
  have hT : bigSep exchToks (fun x => (dutyTok ER x.1 x.2.1 x.2.2 : sProp 𝕄))
      = bigSep Finset.univ fun c : Dev nD => bigSep Finset.univ fun r : Fin 3 => minted c r := by
    unfold exchToks; rw [bigSep_map, bigSep_univ_prod]
    refine bigSep_congr fun c _ => ?_
    rw [bigSep_univ_prod]
    exact bigSep_congr fun r _ => by unfold minted; rw [bigSep5]; rfl
  iintro HX
  imod (Rounds.fund ER (sched m ρ) exchCells exchToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The invariants -/

theorem ownSems0_eq (c : Dev nD) : (Pipeline.ownSems0 (Ix := Unit) (Name := ℕ) (U := UU) (Lvl := ℕ) (Val := Elt F) (τ := τ) osem c : sProp 𝕄) = ownZ c := rfl

theorem unscopedSems0_eq (c : Dev nD) : (unscopedSems0 c : sProp 𝕄) = semVal (kcell (c, kBar)) 0 := by
  unfold unscopedSems0; rw [bigSep_eq_bigSepL_of_eq [SemLoc.reg barS] (by decide) (by decide)]; rfl

theorem sems0 (c : Dev nD) : iprop(ownZ c ∗ semVal (kcell (c, kBar)) 0) ⊢ (bigSep Finset.univ fun k : KIx => semVal (kcell (c, k)) 0 : sProp 𝕄) := by
  rw [BI.bigSep_univ_sum, show (Finset.univ : Finset Unit) = {()} from rfl, bigSep_singleton]
  show iprop(ownZ c ∗ semVal (kcell (c, kBar)) 0) ⊢ iprop(semVal (kcell (c, kBar)) 0 ∗ ownZ c)
  iintro ⟨H, G⟩
  isplitl [G]; · iexact G
  iexact H

/-- A device's semaphores at zero become its semaphores' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(at₀ c k ∗ reached ER (kcell (c, k)) 0)) ∗ bigSep Finset.univ fun r : Fin 3 => minted c r) := by
  rw [ownSems0_eq, unscopedSems0_eq]
  unfold G
  iintro ⟨Hos, Hus, Hst, Hat, Htok⟩
  ihave Hv := (sems0 (F := F) c) $$ [Hos Hus]
  · isplitl [Hos] <;> iassumption
  imod (show iprop((bigSep Finset.univ fun k : KIx => semVal (kcell (c, k)) 0) ∗ bigSep Finset.univ fun k : KIx => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to those who pay -/

theorem deal_one (r : Fin 3) : (bigSep Finset.univ fun c : Dev nD => (minted c r : sProp 𝕄)) ⊢ bigSep Finset.univ fun c : Dev nD => payTok c r := by
  unfold minted payTok
  rw [bigSep_sep', bigSep_sep', bigSep_sep', bigSep_sep', bigSep_sep', bigSep_sep', bigSep_sep', bigSep_sep',
    bigSep_univ_equiv (turn r) (fun c : Dev nD => (dutyTok ER (kcell (c, kBar)) 0 r : sProp 𝕄)),
    bigSep_univ_equiv (turn r) (fun c : Dev nD => (dutyTok ER (kcell (c, kDr (zc (bwd r c)))) 0 0 : sProp 𝕄)),
    bigSep_univ_equiv (turn r) (fun c : Dev nD => (dutyTok ER (kcell (c, kBr (zc (bwd r c)))) 0 0 : sProp 𝕄)),
    bigSep_congr (s := Finset.univ) (fun (c : Dev nD) _ => show (dutyTok ER (kcell (turn r c, kDr (zc (bwd r (turn r c))))) 0 0 : sProp 𝕄)
      = dutyTok ER (kcell (fwd r c, kDr (zc c))) 0 0 by show dutyTok ER (kcell (fwd r c, kDr (zc (bwd r (fwd r c))))) 0 0 = _; rw [bwd_fwd]),
    bigSep_congr (s := Finset.univ) (fun (c : Dev nD) _ => show (dutyTok ER (kcell (turn r c, kBr (zc (bwd r (turn r c))))) 0 0 : sProp 𝕄)
      = dutyTok ER (kcell (fwd r c, kBr (zc c))) 0 0 by show dutyTok ER (kcell (fwd r c, kBr (zc (bwd r (fwd r c))))) 0 0 = _; rw [bwd_fwd])]
  exact Entails.of_eq rfl

theorem deal : (bigSep Finset.univ fun c : Dev nD => bigSep Finset.univ fun r : Fin 3 => (minted c r : sProp 𝕄))
    ⊢ bigSep Finset.univ fun c : Dev nD => iprop(payTok c 0 ∗ payTok c 1 ∗ payTok c 2) := by
  rw [bigSep_congr (s := Finset.univ) (fun (c : Dev nD) _ => bigSep3 (fun r => (minted c r : sProp 𝕄))), bigSep_sep', bigSep_sep', bigSep_sep', bigSep_sep']
  iintro ⟨H0, H1, H2⟩
  isplitl [H0]; · iapply (deal_one 0); iexact H0
  isplitl [H1]; · iapply (deal_one 1); iexact H1
  iapply (deal_one 2); iexact H2

/-- A device's semaphores in the order in which `linear` holds them. -/
def held (c : Dev nD) : List KIx :=
  [kBar, kDr (zc c), kBr (zc c),
    kDs 0, kBs 0, kDr (zc (bwd 0 c)), kBr (zc (bwd 0 c)),
    kDs 1, kBs 1, kDr (zc (bwd 1 c)), kBr (zc (bwd 1 c)),
    kDs 2, kBs 2, kDr (zc (bwd 2 c)), kBr (zc (bwd 2 c))]
theorem held_nodup (c : Dev nD) : (held c).Nodup := by revert c; decide +kernel
theorem held_all (c : Dev nD) : (Finset.univ : Finset KIx) = (held c).toFinset := by revert c; decide +kernel

theorem linear_intro (c : Dev nD) : iprop((bigSep Finset.univ fun k : KIx => at₀ c k) ∗ payTok c 0 ∗ payTok c 1 ∗ payTok c 2) ⊢ (linear c : sProp 𝕄) := by
  rw [(bigSep_univ_eq_bigSepL (held c) (held_all c) (held_nodup c) (fun k => (at₀ c k : sProp 𝕄))).trans
    (show _ = iprop(at₀ c kBar ∗ at₀ c (kDr (zc c)) ∗ at₀ c (kBr (zc c))
      ∗ at₀ c (kDs 0) ∗ at₀ c (kBs 0) ∗ at₀ c (kDr (zc (bwd 0 c))) ∗ at₀ c (kBr (zc (bwd 0 c)))
      ∗ at₀ c (kDs 1) ∗ at₀ c (kBs 1) ∗ at₀ c (kDr (zc (bwd 1 c))) ∗ at₀ c (kBr (zc (bwd 1 c)))
      ∗ at₀ c (kDs 2) ∗ at₀ c (kBs 2) ∗ at₀ c (kDr (zc (bwd 2 c))) ∗ at₀ c (kBr (zc (bwd 2 c)))) from rfl)]
  unfold linear side
  iintro ⟨⟨HB, HD, HE, Ha0, Hb0, Hd0, He0, Ha1, Hb1, Hd1, He1, Ha2, Hb2, Hd2, He2⟩, H0, H1, H2⟩
  isplitl [HB]; · iexact HB
  isplitl [HD HE]
  · isplitl [HD] <;> iassumption
  isplitl [H0 Ha0 Hb0 Hd0 He0]
  · isplitl [H0]; · iexact H0
    isplitl [Ha0]; · iexact Ha0
    isplitl [Hb0]; · iexact Hb0
    isplitl [Hd0] <;> iassumption
  isplitl [H1 Ha1 Hb1 Hd1 He1]
  · isplitl [H1]; · iexact H1
    isplitl [Ha1]; · iexact Ha1
    isplitl [Hb1]; · iexact Hb1
    isplitl [Hd1] <;> iassumption
  isplitl [H2]; · iexact H2
  isplitl [Ha2]; · iexact Ha2
  isplitl [Hb2]; · iexact Hb2
  isplitl [Hd2] <;> iassumption

/-- What every index may use, beside what each holds alone. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_of (K : Dev nD × KIx → ℕ) (c : Dev nD) : iprop(records m ρ K ∗ linear c) ⊢ G' m ρ c := by
  unfold G' ghost
  iintro H
  iexists K; iexact H

theorem regroup :
    (bigSep Finset.univ fun c : Dev nD => iprop((bigSep Finset.univ fun k => iprop(∃ κ : ℕ, cellInv ER (sched m ρ) κ (kcell (c, k))))
          ∗ (bigSep Finset.univ fun k => iprop(at₀ c k ∗ reached ER (kcell (c, k)) 0)) ∗ bigSep Finset.univ fun r : Fin 3 => minted c r) : sProp 𝕄)
      ⊢ bigSep Finset.univ (G' m ρ) := by
  rw [bigSep_sep', bigSep_sep', ← bigSep_univ_prod (fun ck : Dev nD × KIx => iprop(∃ κ : ℕ, cellInv ER (sched m ρ) κ (kcell ck))),
    bigSep_congr (s := Finset.univ) (fun (c : Dev nD) _ => bigSep_sep' Finset.univ (fun k : KIx => (at₀ c k : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok⟩
  ihave HK := (BI.bigSep_exists_pi Finset.univ (fun (ck : Dev nD × KIx) (κ : ℕ) => (cellInv ER (sched m ρ) κ (kcell ck) : sProp 𝕄))) $$ HI
  icases HK with ⟨%K, #HI⟩
  ihave Htk := (deal (F := F)) $$ Htok
  iapply (bigSep_share (R := records m ρ K) fun c _ => ghost_of m ρ K c)
  isplitr
  · unfold records; isplitl; · iexact HI
    iexact HR
  · iapply ((Entails.of_eq (bigSep_sep' Finset.univ (fun c : Dev nD => bigSep Finset.univ fun k : KIx => (at₀ c k : sProp 𝕄))
        (fun c => iprop(payTok c 0 ∗ payTok c 1 ∗ payTok c 2))).symm).trans (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem tally_kcell (a c : Dev nD) (k' k : KIx) (n : ℕ) :
    (tallyAt (kcell (a, k')) () n : CellTallies nD τ sig Unit) (kcell (c, k)) () = if a = c ∧ k' = k then n else 0 := by
  rw [tallyAt_apply]
  by_cases h : a = c ∧ k' = k
  · obtain ⟨rfl, rfl⟩ := h; rw [if_pos ⟨rfl, rfl⟩, if_pos ⟨rfl, rfl⟩]
  · rw [if_neg h, if_neg fun ⟨h1, _⟩ => h (by have := kcell_injective h1; exact ⟨(congrArg Prod.fst this).symm, (congrArg Prod.snd this).symm⟩)]

/-- Over all devices, one duty towards the device `r + 1` places on comes to what the one device that pays it owes. -/
theorem sum_turn (r : Fin 3) (c : Dev nD) (f : Dev nD → KIx) (k : KIx) (n : ℕ) :
    (∑ d : Dev nD, if fwd r d = c ∧ f d = k then n else 0) = if f (bwd r c) = k then n else 0 := by
  rw [Finset.sum_eq_single (bwd r c)]
  · rw [fwd_bwd]; simp
  · intro d _ hd; exact if_neg fun ⟨h, _⟩ => hd (by rw [← h, bwd_fwd])
  · intro h; exact absurd (Finset.mem_univ _) h

theorem owed_sum (c : Dev nD) (k : KIx) : (∑ d : Dev nD, O₀ d (kcell (c, k)) ())
    = (if kBr (zc (bwd 2 c)) = k then Nb else 0) + (if kBr (zc (bwd 1 c)) = k then Nb else 0) + (if kBr (zc (bwd 0 c)) = k then Nb else 0)
      + (if kDr (zc (bwd 2 c)) = k then Nd else 0) + (if kDr (zc (bwd 1 c)) = k then Nd else 0) + (if kDr (zc (bwd 0 c)) = k then Nd else 0)
      + (if kBar = k then 1 else 0) + (if kBar = k then 1 else 0) + (if kBar = k then 1 else 0) := by
  unfold O₀ oR1 oR2 oD0 oD1 oD2 oB0 oB1 oB2 barOf drOf brOf
  simp only [Pi.add_apply, Finsupp.add_apply, tally_kcell, Pi.zero_apply, Finsupp.zero_apply, Finset.sum_add_distrib, Nat.zero_add, Finset.sum_const_zero]
  rw [sum_turn 2 c (fun d => kBr (zc d)), sum_turn 1 c (fun d => kBr (zc d)), sum_turn 0 c (fun d => kBr (zc d)),
    sum_turn 2 c (fun d => kDr (zc d)), sum_turn 1 c (fun d => kDr (zc d)), sum_turn 0 c (fun d => kDr (zc d)),
    sum_turn 2 c (fun _ => kBar), sum_turn 1 c (fun _ => kBar), sum_turn 0 c (fun _ => kBar)]

theorem zc_bwd_ne (c : Dev nD) : zc (bwd 0 c) ≠ zc (bwd 1 c) ∧ zc (bwd 0 c) ≠ zc (bwd 2 c) ∧ zc (bwd 1 c) ≠ zc (bwd 2 c) := by
  revert c; decide +kernel

theorem owed_bar (c : Dev nD) : (∑ d : Dev nD, O₀ d (kcell (c, kBar)) ()) = 3 := by rw [owed_sum]; simp
theorem owed_dr (c : Dev nD) (r : Fin 3) : (∑ d : Dev nD, O₀ d (kcell (c, kDr (zc (bwd r c)))) ()) = Nd := by
  obtain ⟨h1, h2, h3⟩ := zc_bwd_ne c
  rw [owed_sum]; fin_cases r <;> simp [h1, h2, h3, h1.symm, h2.symm, h3.symm]
theorem owed_br (c : Dev nD) (r : Fin 3) : (∑ d : Dev nD, O₀ d (kcell (c, kBr (zc (bwd r c)))) ()) = Nb := by
  obtain ⟨h1, h2, h3⟩ := zc_bwd_ne c
  rw [owed_sum]; fin_cases r <;> simp [h1, h2, h3, h1.symm, h2.symm, h3.symm]

theorem launch_cred (c : Dev nD) (k : KIx) (n : ℕ) (h : (∑ d : Dev nD, O₀ d (kcell (c, k)) ()) = n) :
    (cred (tallyOn (kcell (c, k)) (launchCredit (Pipeline.owing O₀) 0 (kcell (c, k)))) : sProp 𝕄) = crd c k n := by
  unfold crd tallyAt
  refine congrArg (fun x => (cred (tallyOn (kcell (c, k)) x) : sProp 𝕄)) (Finsupp.ext fun u => ?_)
  cases u
  rw [Pipeline.launchCredit_owing, Finsupp.single_eq_same, h]

theorem csem_injective : Function.Injective csem := fun k k' h => by
  have := congrArg kind h
  rw [kind_csem, kind_csem] at this
  exact Option.some.inj this

theorem creds (c : Dev nD) : (Pipeline.launchCred O₀ c : sProp 𝕄) ⊢ iprop(crd c kBar 3 ∗ credits c 0 ∗ credits c 1 ∗ credits c 2) := by
  unfold Pipeline.launchCred
  refine (bigSep_subset (Finset.subset_univ (Finset.univ.map ⟨csem, csem_injective⟩)) ).trans ?_
  rw [bigSep_map, bigSep_univ_eq_bigSepL (held c) (held_all c) (held_nodup c)]
  refine (Entails.of_eq (show _ = iprop(cred (tallyOn (kcell (c, kBar)) (launchCredit (Pipeline.owing O₀) 0 (kcell (c, kBar)))) ∗ _ ∗ _
    ∗ _ ∗ _ ∗ cred (tallyOn (kcell (c, kDr (zc (bwd 0 c)))) (launchCredit (Pipeline.owing O₀) 0 (kcell (c, kDr (zc (bwd 0 c))))))
      ∗ cred (tallyOn (kcell (c, kBr (zc (bwd 0 c)))) (launchCredit (Pipeline.owing O₀) 0 (kcell (c, kBr (zc (bwd 0 c))))))
    ∗ _ ∗ _ ∗ cred (tallyOn (kcell (c, kDr (zc (bwd 1 c)))) (launchCredit (Pipeline.owing O₀) 0 (kcell (c, kDr (zc (bwd 1 c))))))
      ∗ cred (tallyOn (kcell (c, kBr (zc (bwd 1 c)))) (launchCredit (Pipeline.owing O₀) 0 (kcell (c, kBr (zc (bwd 1 c))))))
    ∗ _ ∗ _ ∗ cred (tallyOn (kcell (c, kDr (zc (bwd 2 c)))) (launchCredit (Pipeline.owing O₀) 0 (kcell (c, kDr (zc (bwd 2 c))))))
      ∗ cred (tallyOn (kcell (c, kBr (zc (bwd 2 c)))) (launchCredit (Pipeline.owing O₀) 0 (kcell (c, kBr (zc (bwd 2 c)))))))
      from rfl)).trans ?_
  rw [launch_cred c kBar 3 (owed_bar c), launch_cred c _ Nd (owed_dr c 0), launch_cred c _ Nb (owed_br c 0), launch_cred c _ Nd (owed_dr c 1),
    launch_cred c _ Nb (owed_br c 1), launch_cred c _ Nd (owed_dr c 2), launch_cred c _ Nb (owed_br c 2)]
  unfold credits
  iintro ⟨HB, -, -, -, -, Hd0, He0, -, -, Hd1, He1, -, -, Hd2, He2⟩
  isplitl [HB]; · iexact HB
  isplitl [Hd0 He0]
  · isplitl [Hd0] <;> iassumption
  isplitl [Hd1 He1]
  · isplitl [Hd1] <;> iassumption
  isplitl [Hd2] <;> iassumption

end Cert.KernelIdealProof

end
-- ==== Proof.Ideal.Run.lean ====
/-
# The run

From the body of every device to the whole mesh: every execution ends, the arguments as they were,
the result as `outAt` says, every semaphore at zero.
-/
module

public import proofs.«01_k».proof.Proof.Ideal.Deal
public import Idealize.ShloMosaic.Lib.Pipeline.CollectiveSegs
public import Idealize.ShloMosaic.Lib.Pipeline.Value

@[expose] public section

noncomputable section

namespace Cert.KernelIdealProof

open Cert.KernelIdeal Cert.KernelIdeal.Gen Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

theorem cfg0_N : cfg0.N = 1 := by decide
set_option backward.proofsInPublic true in
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start m ρ c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (dstg m ρ c) ∗ stg c cc0_stg2_0 (outAt m ρ c))

theorem body_at (c : Dev nD) : bodyPre m ρ c ⊢ W c (cc0_body xM (Memref.isWhole_whole _) dM (Memref.isWhole_whole _) oM (Memref.isWhole_whole _) dgM (Memref.isWhole_whole _) sbM (Memref.isWhole_whole _) rbM (Memref.isWhole_whole _) cc0_scratch3 cc0_scratch4 cc0_scratch5 cc0_scratch6) (fun _ => bodyPost m ρ c) := by
  unfold bodyPre Φ₀ start
  iintro ⟨⟨⟨⟨%K, Hg⟩, Hc, HL⟩, Hs⟩, Ho, ⟨%d0, %g0, %hg0, Hx⟩, ⟨%d1, %g1, %hg1, Hd⟩, ⟨%d2, %g2, %hg2, Hout⟩⟩
  have hx : g0 = xstg m ρ c := by rw [hg0]; unfold Dat.before; rw [if_pos (fetch0_0 t₀)]; rfl
  have hd : g1 = dstg m ρ c := by rw [hg1]; unfold Dat.before; rw [if_pos (fetch0_1 t₀)]; rfl
  subst hx; subst hd
  unfold Dat.owesAt Pipeline.owesWithin
  icases Ho with ⟨%W', %hW, HO⟩
  rw [show (dats m ρ 0 c).owed t₀.castSucc = O₀ c from rfl]
  iapply (sound_body m ρ K c)
  isplitl [Hg]; · iexact Hg
  isplitl [Hc]; · iexact Hc
  isplitl [HL]; · iexact HL
  isplitl [Hs]; · iexact Hs
  isplitl [HO]; · unfold ow; iexists W'; iexact HO
  isplitl [Hx]; · iexact Hx
  isplitl [Hd]; · iexact Hd
  isplitl [Hout]; · iexists g2; iexact Hout
  iintro ⟨HO, Hx, Hd, Hout, HΦ⟩
  unfold bodyPost Dat.owesAt Pipeline.owesWithin ow
  rw [show (dats m ρ 0 c).owed t₀.succ = 0 from rfl]
  icases HO with ⟨%W2, HO⟩
  isplitl [HΦ]; · iexact HΦ
  isplitl [HO]
  · iexists W2
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t, show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  simp only [owns_whole_eq]
  exact body_at m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, Hc, -, HG⟩
  ihave Hc := (creds (F := F) c) $$ Hc
  imodintro
  unfold start G'
  isplitl
  · isplitl [HG]; · iexact HG
    isplitl [Hc]; · iexact Hc
    iexact HL
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, Hz, HB⟩
  isplitl [HB]; · iexact HB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> decide) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

set_option maxRecDepth 8000 in
/-- Every execution from any memory and zero counters ends with every window's array as the schedule of staging
    leaves it, and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c.tc : Thread nD τ).loc main_arg0) :=
  (dats (F := F) m ρ 0 c).arrAt_in (0 : Fin 3) rfl _
theorem final_d (c : Dev nD) : finalA m ρ c (1 : Fin 3) = m ((c.tc : Thread nD τ).loc main_arg1) :=
  (dats (F := F) m ρ 0 c).arrAt_in (1 : Fin 3) rfl _

/-! ## Whole blocks: each window is its array -/

theorem emb_x (y : S512x256.Idx) : (win0_0.blk (0 : Fin 1)).view.emb y = y :=
  funext fun a => Fin.ext (Window.rect_emb_val_of_index_zero win0_0 (0 : Fin 1) a (by revert a; decide +kernel) y)
theorem emb_d (y : S512.Idx) : (win0_1.blk (0 : Fin 1)).view.emb y = y :=
  funext fun a => Fin.ext (Window.rect_emb_val_of_index_zero win0_1 (0 : Fin 1) a (by revert a; decide +kernel) y)
theorem emb_o (y : S512x256.Idx) : (win0_2.blk (0 : Fin 1)).view.emb y = y :=
  funext fun a => Fin.ext (Window.rect_emb_val_of_index_zero win0_2 (0 : Fin 1) a (by revert a; decide +kernel) y)

theorem xstg_eq (c : Dev nD) : xstg m ρ c = m ((c.tc : Thread nD τ).loc main_arg0) := by
  unfold xstg; funext y; rw [View.read_apply, emb_x]; rfl
theorem dstg_eq (c : Dev nD) : dstg m ρ c = m ((c.tc : Thread nD τ).loc main_arg1) := by
  unfold dstg; funext y; rw [View.read_apply, emb_d]; rfl

theorem final_o (c : Dev nD) : finalA m ρ c (2 : Fin 3) = outAt m ρ c := by
  unfold finalA
  refine (dats (F := F) m ρ 0 c).arrAt_eq_of_cover (2 : Fin 3) (outAt m ρ c) (fun t _ => ?_) (fun i => ⟨t₀, flush0_2 _, ?_⟩)
  · rw [fin_N t]
    exact (funext fun y => by rw [View.read_apply]; exact congrArg (outAt m ρ c) (emb_o y)).symm
  · have h := View.emb_mem_set (v := ((cfg0.win (2 : Fin 3)).blk t₀).view) i
    exact (emb_o i) ▸ h

/-- The result ends as `outAt` says, the arguments as they were. -/
theorem result : θ_run defs (onTc (τ := τ) (main (F := F))) (s₀ m ρ)
    (fun r => ∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (final_o m ρ c), (h.1 c (0 : Fin 3)).trans (final_x m ρ c), (h.1 c (1 : Fin 3)).trans (final_d m ρ c)⟩)
    (run_main m ρ)

/-- The arguments end as they were and every counter at zero. -/
theorem quiescent : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (final_x m ρ c), (h.1 c (1 : Fin 3)).trans (final_d m ρ c)⟩, h.2⟩)
    (run_main m ρ)

end Cert.KernelIdealProof

end
-- ==== Proof.Value.Order.lean ====
/-
# Counting and the stable order

A row is named by its position. Among the rows sent to one destination it has a place: the number of
rows sent there that stand before it. This file has the facts about places used on both sides: two
rows with one destination and one place are the same row; the place in a long table cut into blocks is
the number of rows in the earlier blocks plus the place inside the block; and the stable sort by
destination puts, at the start of a destination's run plus `k`, the row whose place is `k`.
-/
module

public import Idealize.ShloMosaic.PureOps
public import Idealize.ShloMosaic.Lib.SortFacts
public import Mathlib.Algebra.Order.BigOperators.Group.Finset

@[expose] public section

namespace Cert.Order

open Idealize.ShloMosaic
open scoped BigOperators

/-! ## Places -/

/-- How many rows are sent to `Z`. -/
def total {n : ℕ} (D : Fin n → BitVec 32) (Z : BitVec 32) : ℕ := (Finset.univ.filter fun g => D g = Z).card

/-- How many rows before row `g` are sent to `Z`. -/
def before {n : ℕ} (D : Fin n → BitVec 32) (Z : BitVec 32) (g : Fin n) : ℕ :=
  (Finset.univ.filter fun g' => g' < g ∧ D g' = Z).card

/-- How many rows have a destination below `Z`, as signed words. -/
def below {n : ℕ} (D : Fin n → BitVec 32) (Z : BitVec 32) : ℕ :=
  (Finset.univ.filter fun g => (D g).toInt < Z.toInt).card

theorem total_le {n : ℕ} (D : Fin n → BitVec 32) (Z : BitVec 32) : total D Z ≤ n :=
  (Finset.card_le_univ _).trans_eq (Fintype.card_fin n)

theorem below_le {n : ℕ} (D : Fin n → BitVec 32) (Z : BitVec 32) : below D Z ≤ n :=
  (Finset.card_le_univ _).trans_eq (Fintype.card_fin n)

theorem before_le {n : ℕ} (D : Fin n → BitVec 32) (Z : BitVec 32) (g : Fin n) : before D Z g ≤ n :=
  (Finset.card_le_univ _).trans_eq (Fintype.card_fin n)

/-- The runs below `Z` and at `Z` do not overlap. -/
theorem below_add_total_le {n : ℕ} (D : Fin n → BitVec 32) (Z : BitVec 32) : below D Z + total D Z ≤ n := by
  unfold below total
  rw [← Finset.card_union_of_disjoint]
  · exact (Finset.card_le_univ _).trans_eq (Fintype.card_fin n)
  · rw [Finset.disjoint_filter]
    intro g _ h e
    rw [e] at h
    exact lt_irrefl _ h

theorem before_lt_total {n : ℕ} (D : Fin n → BitVec 32) (Z : BitVec 32) (g : Fin n) (hg : D g = Z) :
    before D Z g < total D Z := by
  refine Finset.card_lt_card ⟨fun g' h => ?_, fun h => ?_⟩
  · rw [Finset.mem_filter] at h ⊢
    exact ⟨h.1, h.2.2⟩
  · have : g ∈ Finset.univ.filter fun g' => g' < g ∧ D g' = Z :=
      h (Finset.mem_filter.mpr ⟨Finset.mem_univ _, hg⟩)
    exact lt_irrefl _ (Finset.mem_filter.mp this).2.1

theorem before_lt_before {n : ℕ} (D : Fin n → BitVec 32) (Z : BitVec 32) (g h : Fin n) (hg : D g = Z) (hgh : g < h) :
    before D Z g < before D Z h := by
  refine Finset.card_lt_card ⟨fun g' e => ?_, fun e => ?_⟩
  · rw [Finset.mem_filter] at e ⊢
    exact ⟨e.1, e.2.1.trans hgh, e.2.2⟩
  · have : g ∈ Finset.univ.filter fun g' => g' < g ∧ D g' = Z :=
      e (Finset.mem_filter.mpr ⟨Finset.mem_univ _, hgh, hg⟩)
    exact lt_irrefl _ (Finset.mem_filter.mp this).2.1

/-- One destination and one place: the same row. -/
theorem eq_of_before_eq {n : ℕ} (D : Fin n → BitVec 32) (Z : BitVec 32) (g h : Fin n) (hg : D g = Z) (hh : D h = Z)
    (e : before D Z g = before D Z h) : g = h := by
  rcases lt_trichotomy g h with l | l | l
  · exact absurd e (before_lt_before D Z g h hg l).ne
  · exact l
  · exact absurd e (before_lt_before D Z h g hh l).ne'

/-! ## Places in a table cut into blocks -/

/-- Row `t` of block `i`, of the four blocks of 512 rows. -/
def row (i : Fin 4) (t : Fin 512) : Fin 2048 := ⟨512 * i.val + t.val, by omega⟩

/-- How many rows of the blocks before block `i` are sent to `Z`. -/
def base (d : Fin 4 → Fin 512 → BitVec 32) (Z : BitVec 32) (i : Fin 4) : ℕ :=
  ∑ i' : Fin 4, if i' < i then total (d i') Z else 0

/-- Every row lies in one block. -/
theorem exists_row (g : Fin 2048) : ∃ i t, g = row i t :=
  ⟨⟨g.val / 512, by omega⟩, ⟨g.val % 512, by omega⟩, Fin.ext (by simp only [row]; omega)⟩

theorem row_lt (i i' : Fin 4) (t t' : Fin 512) : row i' t' < row i t ↔ i' < i ∨ i' = i ∧ t' < t := by
  simp only [row, Fin.lt_def, Fin.ext_iff]; omega

/-- The rows of the long table are the rows of its blocks. -/
def rowEquiv : Fin 4 × Fin 512 ≃ Fin 2048 where
  toFun p := row p.1 p.2
  invFun g := (⟨g.val / 512, by omega⟩, ⟨g.val % 512, by omega⟩)
  left_inv p := by
    refine Prod.ext (Fin.ext ?_) (Fin.ext ?_) <;> simp only [row] <;> omega
  right_inv g := Fin.ext (by simp only [row]; omega)

/-- A place in the long table: the rows of the earlier blocks, then the place inside the block. -/
theorem before_row (D : Fin 2048 → BitVec 32) (Z : BitVec 32) (i : Fin 4) (t : Fin 512) :
    before D Z (row i t) = base (fun i t => D (row i t)) Z i + before (fun t => D (row i t)) Z t := by
  have e1 : before D Z (row i t)
      = ∑ i' : Fin 4, ∑ t' : Fin 512, if (i' < i ∨ i' = i ∧ t' < t) ∧ D (row i' t') = Z then 1 else 0 := by
    unfold before
    rw [Finset.card_filter, ← Equiv.sum_comp rowEquiv, Fintype.sum_prod_type]
    refine Finset.sum_congr rfl fun i' _ => Finset.sum_congr rfl fun t' _ => ?_
    show (if row i' t' < row i t ∧ D (row i' t') = Z then 1 else 0) = _
    simp only [row_lt]
  have e2 : ∀ i' : Fin 4, (∑ t' : Fin 512, if (i' < i ∨ i' = i ∧ t' < t) ∧ D (row i' t') = Z then 1 else 0)
      = (if i' < i then total (fun t => D (row i' t)) Z else 0)
        + (if i' = i then before (fun t => D (row i t)) Z t else 0) := by
    intro i'
    rcases lt_trichotomy i' i with h | h | h
    · rw [if_pos h, if_neg h.ne, Nat.add_zero, total, Finset.card_filter]
      exact Finset.sum_congr rfl fun t' _ => by simp only [h, true_or, true_and]
    · subst h
      rw [if_neg (lt_irrefl _), if_pos rfl, Nat.zero_add, before, Finset.card_filter]
      exact Finset.sum_congr rfl fun t' _ => by simp only [lt_irrefl, false_or, true_and]
    · rw [if_neg h.not_gt, if_neg h.ne', Nat.add_zero]
      exact Finset.sum_eq_zero fun t' _ => if_neg fun e => e.1.elim h.not_gt fun e => h.ne' e.1
  rw [e1, Finset.sum_congr rfl fun i' _ => e2 i', Finset.sum_add_distrib, base]
  congr 1
  rw [Finset.sum_ite_eq' Finset.univ i, if_pos (Finset.mem_univ _)]

/-- The rows of block `i` come after those of every earlier block. -/
theorem base_add_total_le (d : Fin 4 → Fin 512 → BitVec 32) (Z : BitVec 32) {i j : Fin 4} (h : i < j) :
    base d Z i + total (d i) Z ≤ base d Z j := by
  have e : base d Z i + total (d i) Z = ∑ i' : Fin 4, ((if i' < i then total (d i') Z else 0) + if i' = i then total (d i) Z else 0) := by
    rw [Finset.sum_add_distrib, Finset.sum_ite_eq' Finset.univ i, if_pos (Finset.mem_univ _), base]
  rw [e, base]
  refine Finset.sum_le_sum fun i' _ => ?_
  rcases lt_trichotomy i' i with l | l | l
  · rw [if_pos l, if_neg l.ne, if_pos (l.trans h)]; omega
  · subst l; rw [if_neg (lt_irrefl _), if_pos rfl, if_pos h]; omega
  · rw [if_neg l.not_gt, if_neg l.ne']; exact Nat.zero_le _

/-- A place lies in one block's run only. -/
theorem base_inj (d : Fin 4 → Fin 512 → BitVec 32) (Z : BitVec 32) {i j : Fin 4} {r s : ℕ}
    (hr : r < total (d i) Z) (hs : s < total (d j) Z) (e : base d Z i + r = base d Z j + s) : i = j ∧ r = s := by
  rcases lt_trichotomy i j with l | l | l
  · have := base_add_total_le d Z l; omega
  · subst l; exact ⟨rfl, by omega⟩
  · have := base_add_total_le d Z l; omega

/-! ## The stable sort -/

/-- Row `a` comes before row `b` in the stable order. -/
def Less {n : ℕ} (D : Fin n → BitVec 32) (a b : Fin n) : Prop :=
  (D a).toInt < (D b).toInt ∨ (D a).toInt = (D b).toInt ∧ a < b

theorem Less.trans {n : ℕ} {D : Fin n → BitVec 32} {a b c : Fin n} (h : Less D a b) (k : Less D b c) : Less D a c := by
  unfold Less at *; omega

variable {n : ℕ} (D : Fin n → BitVec 32) (lt : Fin n → Fin n → Bool)

theorem less_insert (hlt : ∀ a b, lt a b = true ↔ (D a).toInt < (D b).toInt) (a : Fin n) (l : List (Fin n))
    (hl : l.Pairwise (Less D)) (ha : ∀ b ∈ l, a < b) : (insertBefore lt a l).Pairwise (Less D) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore lt a l).mem_iff.mp hc) with e | hc
      · subst e; exact .inl ((hlt _ _).mp h)
      · exact hl.1 c hc
    · rename_i h
      have hab : Less D a b := by
        have h1 := ha b List.mem_cons_self
        have h2 : ¬ (D b).toInt < (D a).toInt := fun e => h ((hlt _ _).mpr e)
        unfold Less; omega
      refine List.pairwise_cons.mpr ⟨fun c hc => ?_, List.pairwise_cons.mpr hl⟩
      rcases List.mem_cons.mp hc with e | hc
      · subst e; exact hab
      · exact hab.trans (hl.1 c hc)

theorem less_stableSort (hlt : ∀ a b, lt a b = true ↔ (D a).toInt < (D b).toInt) (l : List (Fin n))
    (hl : l.Pairwise (· < ·)) : (stableSort lt l).Pairwise (Less D) := by
  induction l with
  | nil => exact List.Pairwise.nil
  | cons a l ih =>
    rw [List.pairwise_cons] at hl
    unfold stableSort
    exact less_insert D lt hlt a _ (ih hl.2) fun b hb => hl.1 b ((perm_stableSort lt l).mem_iff.mp hb)

/-- The sorted rows are in the stable order. -/
theorem less_sortedFrom (hlt : ∀ a b, lt a b = true ↔ (D a).toInt < (D b).toInt) (i j : Fin n) (h : i < j) :
    Less D (sortedFrom lt i) (sortedFrom lt j) := by
  have hp := List.pairwise_iff_get.mp (less_stableSort D lt hlt (List.finRange n) (List.pairwise_lt_finRange n))
  unfold sortedFrom
  exact hp (i.cast (length_sortPositions n lt).symm) (j.cast (length_sortPositions n lt).symm) h

/-- The sort's position of a row is the number of rows before it in the stable order. -/
theorem card_less_sortedFrom (hlt : ∀ a b, lt a b = true ↔ (D a).toInt < (D b).toInt) (q : Fin n) :
    (Finset.univ.filter fun g => (D g).toInt < (D (sortedFrom lt q)).toInt).card
      + (Finset.univ.filter fun g => g < sortedFrom lt q ∧ (D g).toInt = (D (sortedFrom lt q)).toInt).card = q.val := by
  classical
  rw [← Finset.card_union_of_disjoint]
  · have e : ((Finset.univ.filter fun g => (D g).toInt < (D (sortedFrom lt q)).toInt)
        ∪ Finset.univ.filter fun g => g < sortedFrom lt q ∧ (D g).toInt = (D (sortedFrom lt q)).toInt)
        = (Finset.Iio q).image (sortedFrom lt) := by
      ext g
      simp only [Finset.mem_union, Finset.mem_filter, Finset.mem_univ, true_and, Finset.mem_image, Finset.mem_Iio]
      obtain ⟨p, hp⟩ := sortedFrom_surjective lt g
      subst hp
      constructor
      · intro h
        refine ⟨p, ?_, rfl⟩
        rcases lt_trichotomy p q with l | l | l
        · exact l
        · subst l; omega
        · have := less_sortedFrom D lt hlt q p l
          unfold Less at this; omega
      · rintro ⟨p', hp', e⟩
        have e' := sortedFrom_injective lt e
        subst e'
        have := less_sortedFrom D lt hlt p' q hp'
        unfold Less at this; omega
    rw [e, Finset.card_image_of_injective _ (sortedFrom_injective lt), Fin.card_Iio]
  · rw [Finset.disjoint_filter]
    intro g _ h e
    omega

/-- The stable sort by destination has, `k` past the start of `Z`'s run, the row sent to `Z` whose
    place is `k`. -/
theorem sortedFrom_run (hlt : ∀ a b, lt a b = true ↔ (D a).toInt < (D b).toInt) (Z : BitVec 32) (k : ℕ)
    (hk : k < total D Z) (q : Fin n) (hq : q.val = below D Z + k) :
    D (sortedFrom lt q) = Z ∧ before D Z (sortedFrom lt q) = k := by
  classical
  have hc := card_less_sortedFrom D lt hlt q
  set g := sortedFrom lt q with hg
  rcases lt_trichotomy (D g).toInt Z.toInt with l | l | l
  · exfalso
    have : (Finset.univ.filter fun g' => (D g').toInt < (D g).toInt).card
        + (Finset.univ.filter fun g' => g' < g ∧ (D g').toInt = (D g).toInt).card < below D Z := by
      rw [← Finset.card_union_of_disjoint]
      · refine Finset.card_lt_card ⟨fun g' h => ?_, fun h => ?_⟩
        · simp only [Finset.mem_union, Finset.mem_filter, Finset.mem_univ, true_and] at h ⊢; omega
        · have := h (Finset.mem_filter.mpr ⟨Finset.mem_univ g, l⟩)
          simp only [Finset.mem_union, Finset.mem_filter, Finset.mem_univ, true_and] at this; omega
      · rw [Finset.disjoint_filter]; intro g' _ h e; omega
    omega
  · have e : D g = Z := BitVec.eq_of_toInt_eq l
    refine ⟨e, ?_⟩
    have h1 : (Finset.univ.filter fun g' => (D g').toInt < (D g).toInt).card = below D Z := by rw [e]; rfl
    have h2 : (Finset.univ.filter fun g' => g' < g ∧ (D g').toInt = (D g).toInt).card = before D Z g := by
      unfold before
      congr 1
      ext g'
      simp only [Finset.mem_filter, Finset.mem_univ, true_and, e]
      exact and_congr_right fun _ => ⟨BitVec.eq_of_toInt_eq, fun h => by rw [h]⟩
    omega
  · exfalso
    have : below D Z + total D Z ≤ (Finset.univ.filter fun g' => (D g').toInt < (D g).toInt).card := by
      unfold below total
      rw [← Finset.card_union_of_disjoint]
      · refine Finset.card_le_card fun g' h => ?_
        simp only [Finset.mem_union, Finset.mem_filter, Finset.mem_univ, true_and] at h ⊢
        rcases h with h | h
        · omega
        · rw [h]; exact l
      · rw [Finset.disjoint_filter]; intro g' _ h e; rw [e] at h; exact lt_irrefl _ h
    omega

end Cert.Order
-- ==== Proof.Value.Words.lean ====
/-
# Numbers as words and as reals

Both programs count with 0/1 values: the reference with words, the kernel with real sums turned back
into words. Here is what such a count is, and how a bit chosen by a comparison reads.
-/
module

public import Idealize.ShloMosaic.PureOps.Ideal.Laws
public import Idealize.ShloMosaic.Lib.WordCmp
public import Idealize.ShloMosaic.Lib.ValueIdx
public import Idealize.ShloMosaic.Lib.ValueIdxCoords
public import Idealize.ShloMosaic.Lib.Pointwise.Reshape
public import Idealize.ShloMosaic.Lib.IdealHost
public import Idealize.ShloMosaic.Lib.MatmulPlain
public import Idealize.ShloMosaic.Lib.Pipeline.Value

@[expose] public section

namespace Cert.Words

open Idealize.ShloMosaic Idealize.ShloMosaic.ValueIdx
open scoped BigOperators

/-- A natural number below 2^31 turned into a word is that number. -/
theorem fptosi_nat (k : ℕ) (h : k < 2 ^ 31) : Ideal.fptosi 32 ((k : ℝ) : EReal) = BitVec.ofNat 32 k := by
  unfold Ideal.fptosi
  rw [Ideal.toIntClamped_coe, if_pos (Nat.cast_nonneg k)]
  have e : ⌊(k : ℝ)⌋ = (k : ℤ) := by simp
  rw [e]
  have : max (-(((2 ^ (32 - 1) : ℕ) : ℤ))) (min ((((2 ^ (32 - 1) : ℕ) : ℤ)) - 1) (k : ℤ)) = (k : ℤ) := by
    norm_num; omega
  rw [this]
  exact BitVec.ofInt_natCast 32 k

/-- The number of indices with a property, as an extended real sum of ones. -/
theorem sum_one {ι : Type} [Fintype ι] (p : ι → Prop) [DecidablePred p] :
    (∑ t, if p t then (1 : EReal) else 0) = (((Finset.univ.filter p).card : ℝ) : EReal) := by
  rw [Finset.sum_boole]
  exact (EReal.coe_coe_eq_natCast _).symm

theorem bit_cases (b : BitVec 1) : b = 0#1 ∨ b = 1#1 := by revert b; decide

/-- A bit widened to a word and turned into a real is one or zero. -/
theorem real_bit (b : BitVec 1) : (((b.setWidth 32).toInt : ℝ) : EReal) = if b = 1#1 then 1 else 0 := by
  rcases bit_cases b with h | h <;> subst h
  · simp
  · simp

theorem mul_bits (p q : Prop) [Decidable p] [Decidable q] :
    ((if p then 1 else 0 : EReal) * if q then 1 else 0) = if p ∧ q then 1 else 0 := by
  by_cases hp : p <;> by_cases hq : q <;> simp [hp, hq]

theorem ite_mul_self (p : Prop) [Decidable p] (a : EReal) : (if p then (1 : EReal) else 0) * a = if p then a else 0 := by
  by_cases hp : p <;> simp [hp]

theorem select_bits {p q : Prop} [Decidable p] [Decidable q] {a b : BitVec 1} (ha : a = 1#1 ↔ p) (hb : b = 1#1 ↔ q)
    (x y : EReal) : Scalar.select (IntOp.andi a b) x y = if p ∧ q then x else y := by
  rcases bit_cases a with h | h <;>
    rcases bit_cases b with k | k <;> subst h <;> subst k
  · have hp : ¬ p := fun e => absurd (ha.mpr e) (by decide)
    rw [if_neg fun e => hp e.1]; rfl
  · have hp : ¬ p := fun e => absurd (ha.mpr e) (by decide)
    rw [if_neg fun e => hp e.1]; rfl
  · have hq : ¬ q := fun e => absurd (hb.mpr e) (by decide)
    rw [if_neg fun e => hq e.2]; rfl
  · rw [if_pos ⟨ha.mp rfl, hb.mp rfl⟩]; rfl

theorem cmpi_eq_iff {w : ℕ} (x y : BitVec w) : IntOp.cmpi .eq x y = 1#1 ↔ x = y := by
  rw [WordCmp.cmpi_eq_eq, WordCmp.ofBool_decide_eq_one_iff]

theorem cmpi_slt_iff {w : ℕ} (x y : BitVec w) : IntOp.cmpi .slt x y = 1#1 ↔ x.toInt < y.toInt := by
  rw [WordCmp.cmpi_slt_eq, WordCmp.ofBool_decide_eq_one_iff]

theorem cmpi_sle_iff {w : ℕ} (x y : BitVec w) : IntOp.cmpi .sle x y = 1#1 ↔ x.toInt ≤ y.toInt := by
  rw [WordCmp.cmpi_sle_eq, WordCmp.ofBool_decide_eq_one_iff]

theorem toInt_ofNat (k : ℕ) (h : k < 2 ^ 31) : (BitVec.ofNat 32 k).toInt = k := WordCmp.toInt_ofNat_of_lt h

theorem ofNat_inj {a b : ℕ} (ha : a < 2 ^ 32) (hb : b < 2 ^ 32) : BitVec.ofNat 32 a = BitVec.ofNat 32 b ↔ a = b :=
  WordCmp.ofNat_eq_ofNat_iff ha hb

end Cert.Words
-- ==== Proof.Value.Tables.lean ====
/-
# Counts read off a table of comparisons

The host program counts by a table with one row for each destination and one column for each row of the
data: the row numbers along one axis against the destinations along the other, compared, and the ones added
up along the columns.
-/
module

public import Idealize.ShloMosaic.Lib.IndicatorCount
public import Idealize.ShloMosaic.Lib.SortFacts
public import proofs.«01_k».proof.Proof.Value.Words

@[expose] public section

noncomputable section

namespace Cert.Tables

open Cert.Words
open Idealize.ShloMosaic hiding ix1 ix2 ix3
open Idealize.ShloMosaic.ValueIdx
open scoped BigOperators

variable {α : Type} {N : ℕ}

/-- A vector spread along the columns. -/
theorem across_apply (hN : N ≠ 1) (v : (⟨1, ![N]⟩ : Shape).Idx → α) (h1 : (⟨1, ![N]⟩ : Shape).BroadcastsInDim ⟨2, ![1, N]⟩ ![1])
    (h2 : (⟨2, ![1, N]⟩ : Shape).BroadcastsInDim ⟨2, ![4, N]⟩ ![0, 1]) (i : Fin 4) (t : Fin N) :
    broadcastInDim ⟨2, ![4, N]⟩ ![0, 1] h2 (broadcastInDim ⟨2, ![1, N]⟩ ![1] h1 v) (ix2 i t) = v (ix1 t) := by
  rw [broadcastInDim_apply _ _ _ (ix2 i t) (ix2 (0 : Fin 1) t) (fun a => by
      match a with
      | ⟨0, _⟩ => exact (if_pos rfl).symm
      | ⟨1, _⟩ => exact (if_neg hN).symm),
    broadcastInDim_apply _ _ _ (ix2 (0 : Fin 1) t) (ix1 t) (fun a => by
      match a with
      | ⟨0, _⟩ => exact (if_neg hN).symm)]

/-- A vector of four spread along the rows. -/
theorem down_apply (v : (⟨1, ![4]⟩ : Shape).Idx → α) (h1 : (⟨1, ![4]⟩ : Shape).BroadcastsInDim ⟨2, ![4, 1]⟩ ![0])
    (h2 : (⟨2, ![4, 1]⟩ : Shape).BroadcastsInDim ⟨2, ![4, N]⟩ ![0, 1]) (i : Fin 4) (t : Fin N) :
    broadcastInDim ⟨2, ![4, N]⟩ ![0, 1] h2 (broadcastInDim ⟨2, ![4, 1]⟩ ![0] h1 v) (ix2 i t) = v (ix1 i) := by
  rw [broadcastInDim_apply _ _ _ (ix2 i t) (ix2 i (0 : Fin 1)) (fun a => by
      match a with
      | ⟨0, _⟩ => exact (if_neg (show (4 : ℕ) ≠ 1 by decide)).symm
      | ⟨1, _⟩ => exact (if_pos rfl).symm),
    broadcastInDim_apply _ _ _ (ix2 i (0 : Fin 1)) (ix1 i) (fun a => by
      match a with
      | ⟨0, _⟩ => exact (if_neg (show (4 : ℕ) ≠ 1 by decide)).symm)]

instance : Std.Commutative (IntOp.addi : BitVec 32 → BitVec 32 → BitVec 32) := ⟨BitVec.add_comm⟩
instance : Std.Associative (IntOp.addi : BitVec 32 → BitVec 32 → BitVec 32) := ⟨BitVec.add_assoc⟩

/-- The ones of a row of the table, added up. -/
theorem count_apply (b : IVec ⟨2, ![4, N]⟩ 1) (hb : 1 < 32) (h' : (⟨2, ![4, N]⟩ : Shape).ReducesTo [1] ⟨1, ![4]⟩)
    (h : (⟨2, ![4, N]⟩ : Shape).Reduces [1] ⟨1, ![4]⟩) (hu : 0 < (⟨0, ![]⟩ : Shape).numel) (i : Fin 4) (p : Fin N → Prop) [DecidablePred p]
    (hp : ∀ t, b (ix2 i t) = 1#1 ↔ p t) :
    Host.reduce IntOp.addi (extui 32 b hb) (constantI ⟨0, ![]⟩ 32 0#32) h' hu (ix1 i) = BitVec.ofNat 32 (Finset.univ.filter p).card := by
  rw [Host.reduce_eq_fold_single IntOp.addi _ _ h' h hu]
  have hl : ∀ t : Fin N, h.lift (ix1 i) t = (ix2 i t : (⟨2, ![4, N]⟩ : Shape).Idx) := by
    intro t
    funext a
    match a with
    | ⟨0, _⟩ => rfl
    | ⟨1, _⟩ => rfl
  have e := IndicatorCount.fold_addi_setWidth_eq_card (w := 32) (fun t : Fin N => b (ix2 i t)) Finset.univ
  refine Eq.trans ?_ (e.trans (congrArg (BitVec.ofNat 32) (congrArg Finset.card (Finset.filter_congr fun t _ => hp t))))
  refine congrArg (fun f => Finset.fold IntOp.addi (0#32) f (Finset.univ : Finset (Fin N))) (funext fun t => ?_)
  exact congrArg (fun j => (b j).setWidth 32) (hl t)

end Cert.Tables

end
-- ==== Proof.Value.Fit.lean ====
/-
# What the precondition says

A device's rows fit when no place is the destination of more than 160 of them.
-/
module

public import proofs.«01_k».proof.Pre_rows_fit_KernelIdeal
public import proofs.«01_k».proof.Pre_rows_fit_ReferenceIdeal
public import proofs.«01_k».proof.Proof.Value.Order
public import proofs.«01_k».proof.Proof.Value.Tables

@[expose] public section

noncomputable section

namespace Cert.Fit

open Cert.Order Cert.Words Cert.Tables
open Idealize.ShloMosaic hiding ix1 ix2 ix3
open Idealize.ShloMosaic.ValueIdx

theorem facts_kernel : Cert.Pre_rows_fit_KernelIdeal.Facts where
  bcast_S4_S4x1_0 := by decide
  bcast_S512_S1x512_1 := by decide
  bcast_S1x512_S4x512_0_1 := by decide
  bcast_S4x1_S4x512_0_1 := by decide
  natLt_1_32 := by decide
  reducesTo_S4x512_S4_d1 := by decide
  h_S_ := by decide
  bcast_S_S4 := by decide

theorem facts_reference : Cert.Pre_rows_fit_ReferenceIdeal.Facts where
  bcast_S4_S4x1_0 := by decide
  bcast_S2048_S1x2048_1 := by decide
  bcast_S1x2048_S4x2048_0_1 := by decide
  bcast_S4x1_S4x2048_0_1 := by decide
  natLt_1_32 := by decide
  reducesTo_S4x2048_S4_d1 := by decide
  h_S_ := by decide
  bcast_S_S4 := by decide

open Cert.Pre_rows_fit_KernelIdeal Cert.Pre_rows_fit_KernelIdeal.Facts

theorem total_le_of_fits [Cert.Pre_rows_fit_KernelIdeal.Facts] (x : FVec Ideal S512x256 .bf16) (d : IVec S512 32)
    (h : Cert.Pre_rows_fit_KernelIdeal.fn (F := Ideal) x d = fun _ => 1#1) (k : Fin 4) :
    total (fun t : Fin 512 => (d (ix1 t) : BitVec 32)) (BitVec.ofNat 32 k.val) ≤ 160 := by
  have hk := congrFun h (ix1 k)
  unfold Cert.Pre_rows_fit_KernelIdeal.fn at hk
  have hc := count_apply (N := 512) (cmpi .eq
      (broadcastInDim S4x512 ![0, 1] bcast_S1x512_S4x512_0_1 (broadcastInDim S1x512 ![1] bcast_S512_S1x512_1 d))
      (broadcastInDim S4x512 ![0, 1] bcast_S4x1_S4x512_0_1 (broadcastInDim S4x1 ![0] bcast_S4_S4x1_0 (iotaInDim S4 32 0))))
    natLt_1_32 reducesTo_S4x512_S4_d1 (by decide) h_S_ k (fun t => (d (ix1 t) : BitVec 32) = BitVec.ofNat 32 k.val) (fun t => by
      show IntOp.cmpi .eq (broadcastInDim S4x512 ![0, 1] bcast_S1x512_S4x512_0_1 (broadcastInDim S1x512 ![1] bcast_S512_S1x512_1 d) (ix2 k t))
        (broadcastInDim S4x512 ![0, 1] bcast_S4x1_S4x512_0_1 (broadcastInDim S4x1 ![0] bcast_S4_S4x1_0 (iotaInDim S4 32 0)) (ix2 k t)) = 1#1 ↔ _
      rw [cmpi_eq_iff, across_apply (by decide), down_apply]
      rfl)
  have h2 := (cmpi_sle_iff _ _).mp (show IntOp.cmpi .sle (Host.reduce IntOp.addi (extui 32 (cmpi .eq
      (broadcastInDim S4x512 ![0, 1] bcast_S1x512_S4x512_0_1 (broadcastInDim S1x512 ![1] bcast_S512_S1x512_1 d))
      (broadcastInDim S4x512 ![0, 1] bcast_S4x1_S4x512_0_1 (broadcastInDim S4x1 ![0] bcast_S4_S4x1_0 (iotaInDim S4 32 0)))) natLt_1_32)
      (constantI S_ 32 0#32) reducesTo_S4x512_S4_d1 h_S_ (ix1 k)) 160#32 = 1#1 from hk)
  replace hc := hc.trans (show _ = BitVec.ofNat 32 (total (fun t : Fin 512 => (d (ix1 t) : BitVec 32)) (BitVec.ofNat 32 k.val)) from rfl)
  rw [hc] at h2
  have ht := total_le (fun t : Fin 512 => (d (ix1 t) : BitVec 32)) (BitVec.ofNat 32 k.val)
  rw [toInt_ofNat _ (by omega)] at h2
  have e : (160#32 : BitVec 32).toInt = 160 := by decide
  omega

end Cert.Fit

end
-- ==== Proof.Value.Pack.lean ====
/-
# What a device packs

The block packed for the device at place `k` has, in row `r`, the row sent to `k` whose place among the
rows sent to `k` is `r` (counting from zero): as a sum over the rows, one term for each row with that
destination and that place.
-/
module

public import proofs.«01_k».proof.Proof.Ideal.Protocol
public import proofs.«01_k».proof.Proof.Value.Order
public import proofs.«01_k».proof.Proof.Value.Words

@[expose] public section

noncomputable section

namespace Cert.KernelIdealProof

open Cert.KernelIdeal Cert.KernelIdeal.Gen Cert.Slots Cert.Order Cert.Words

open Idealize.ShloMosaic hiding ix1 ix2 ix3
open Idealize.ShloMosaic.ValueIdx
open scoped BigOperators

/-- A device's destinations by row number. -/
def dOf (d : Vec Ideal S512 .i32) : Fin 512 → BitVec 32 := fun t => d (ix1 t)

/-- The destination row against each place: a bit. -/
theorem pay3_apply (d : Vec Ideal S512 .i32) (k : Fin 4) (t : Fin 512) :
    k0_pay3 (F := Ideal) d (ix2 k t) = IntOp.cmpi .eq (dOf d t) (BitVec.ofNat 32 k.val) := by
  unfold k0_pay3
  simp only [WordCmp.cmpi_at, WordCmp.iota_at, List.foldl_cons, List.foldl_nil, Nat.zero_mul, Nat.zero_add, ValueIdx.ix2_0]
  congr 1
  rw [broadcastTo_apply _ _ (ix2 k t) (ix2 (0 : Fin 1) t) (by decide +revert)]
  rw [shapeCast_apply _ _ (ix2 (0 : Fin 1) t) (ix1 t) (by
    rw [rowMajor_val1, rowMajor_val2 _ 512 rfl]; simp)]
  rw [shapeCast_apply _ _ (ix1 t) (ix1 t) rfl]
  rfl

/-- The same as a real number. -/
theorem pay4_apply (d : Vec Ideal S512 .i32) (k : Fin 4) (t : Fin 512) :
    k0_pay4 (F := Ideal) d (ix2 k t) = if dOf d t = BitVec.ofNat 32 k.val then (1 : EReal) else 0 := by
  unfold k0_pay4
  show ((((k0_pay3 (F := Ideal) d (ix2 k t)).setWidth 32).toInt : ℝ) : EReal) = _
  rw [real_bit, pay3_apply]
  simp only [cmpi_eq_iff]

/-- The triangle: row `t'` counts for row `t` when it is not after it. -/
theorem pay5_apply (t' t : Fin 512) : k0_pay5 (ix2 t' t) = (IntOp.cmpi .sle (BitVec.ofNat 32 t'.val) (BitVec.ofNat 32 t.val)).setWidth 32 := by
  unfold k0_pay5
  simp only [WordCmp.cmpi_at, WordCmp.extui_at, WordCmp.iota_at, List.foldl_cons, List.foldl_nil, Nat.zero_mul, Nat.zero_add, ValueIdx.ix2_0, ValueIdx.ix2_1]

/-- The running count of the rows sent to place `k`, up to and with row `t`. -/
theorem pay6_apply (d : Vec Ideal S512 .i32) (k : Fin 4) (t : Fin 512) :
    k0_pay6 (F := Ideal) (k0_pay4 d) k0_pay5 (ix2 k t)
      = BitVec.ofNat 32 (Finset.univ.filter fun t' => t' ≤ t ∧ dOf d t' = BitVec.ofNat 32 k.val).card := by
  unfold k0_pay6
  show Ideal.fptosi 32 (FloatOps.matmul (F := Ideal) (DotDims.plain 4 512 512) none _ _ _ (ix2 k t)) = _
  rw [Ideal.matmul_plain_apply]
  have e : ∀ t' : Fin 512, k0_pay4 (F := Ideal) d (ix2 k t')
        * (sitofp .f32 k0_pay5 : FVec Ideal S512x512 .f32) (ix2 t' t)
      = if t' ≤ t ∧ dOf d t' = BitVec.ofNat 32 k.val then (1 : EReal) else 0 := by
    intro t'
    rw [pay4_apply]
    show _ * (((k0_pay5 (ix2 t' t)).toInt : ℝ) : EReal) = _
    rw [pay5_apply, real_bit, mul_bits]
    refine if_congr ?_ rfl rfl
    rw [cmpi_sle_iff, toInt_ofNat _ (by omega), toInt_ofNat _ (by omega), and_comm, Fin.le_def]
    exact and_congr_left fun _ => Int.ofNat_le
  rw [Finset.sum_congr rfl fun t' _ => e t', sum_one]
  show Ideal.fptosi 32 (Ideal.ofBits .f32 0x00000000#32 + _) = _
  rw [Ideal.ofBits_zero_f32, zero_add]
  exact fptosi_nat _ (lt_of_le_of_lt (Finset.card_le_univ _) (by simp))

/-- A row sent to `Z` is counted up to itself once more than before itself. -/
theorem upto_eq (D : Fin 512 → BitVec 32) (Z : BitVec 32) (t : Fin 512) (h : D t = Z) :
    (Finset.univ.filter fun t' => t' ≤ t ∧ D t' = Z).card = before D Z t + 1 := by
  unfold before
  have : (Finset.univ.filter fun t' => t' ≤ t ∧ D t' = Z) = insert t (Finset.univ.filter fun t' => t' < t ∧ D t' = Z) := by
    ext t'
    simp only [Finset.mem_filter, Finset.mem_univ, true_and, Finset.mem_insert, le_iff_eq_or_lt]
    constructor
    · rintro ⟨h1 | h1, h2⟩
      · exact .inl h1
      · exact .inr ⟨h1, h2⟩
    · rintro (h1 | h1)
      · subst h1; exact ⟨.inl rfl, h⟩
      · exact ⟨.inr h1.1, h1.2⟩
  rw [this, Finset.card_insert_of_notMem (by simp)]

/-- Place `r` of the block for `k` takes row `t`. -/
theorem takes_iff (d : Vec Ideal S512 .i32) (k : Fin 4) (t : Fin 512) (r : Fin 160) :
    (BitVec.ofNat 32 (Finset.univ.filter fun t' => t' ≤ t ∧ dOf d t' = BitVec.ofNat 32 k.val).card - 1#32 = BitVec.ofNat 32 r.val
      ∧ dOf d t = BitVec.ofNat 32 k.val)
    ↔ (dOf d t = BitVec.ofNat 32 k.val ∧ before (dOf d) (BitVec.ofNat 32 k.val) t = r.val) := by
  rw [and_comm]
  refine and_congr_right fun h => ?_
  have hb := before_le (dOf d) (BitVec.ofNat 32 k.val) t
  rw [upto_eq _ _ _ h, BitVec.ofNat_add, BitVec.add_sub_cancel]
  exact ofNat_inj (by omega) (by omega)

/-- A selector of rows, as the program builds it from the running count and the destination bits. -/
def hotOf (cs : IVec S160x512 32) (b : IVec S160x512 1) : FVec Ideal S160x512 .bf16 :=
  truncf .bf16 (select (andi (cmpi .eq cs (iota .tc S160x512 32 [0] iota_S160x512_d0_w32)) b)
    (broadcast S160x512 (Scalar.ofBits .f32 0x3F800000#32 : Ideal .f32)) (broadcast S160x512 (Scalar.ofBits .f32 0x00000000#32 : Ideal .f32))) bitsLt_bf16_f32

/-- The rows a selector takes, as a block. -/
def takeRows (h : FVec Ideal S160x512 .bf16) (x : FVec Ideal S512x256 .bf16) : FVec Ideal S1x160x256 .bf16 :=
  shapeCast S1x160x256 (truncf .bf16 (matmul dot_S160x512_S512x256_S160x256_1_0_0_1_n_n none h x (constant S160x256 .f32 0x00000000#32)) bitsLt_bf16_f32)
    shapeCasts_S160x256_S1x160x256

theorem takeRows_apply (h : FVec Ideal S160x512 .bf16) (x : FVec Ideal S512x256 .bf16) (r : Fin 160) (l : Fin 256) :
    takeRows h x (ix3 (0 : Fin 1) r l) = ∑ t : Fin 512, h (ix2 r t) * x (ix2 t l) := by
  unfold takeRows
  rw [shapeCast_apply _ _ (ix3 (0 : Fin 1) r l) (ix2 r l) (by
    rw [rowMajor_val2 _ 256 rfl, rowMajor_val3 _ (160 * 256) 256 rfl rfl]; simp)]
  show FloatOps.matmul (F := Ideal) (DotDims.plain 160 512 256) none h x _ (ix2 r l) = _
  rw [Ideal.matmul_plain_apply]
  show Ideal.ofBits .f32 0x00000000#32 + _ = _
  rw [Ideal.ofBits_zero_f32, zero_add]

/-- A selector built from row `k` of the running counts and row `k` of the bits. -/
theorem hotOf_apply (d : Vec Ideal S512 .i32) (k : Fin 4) (off : Fin S4x512.rank → ℕ) (ho : off = ![k.val, 0])
    (hs : S4x512.Slices off S1x512) (r : Fin 160) (t : Fin 512) :
    hotOf (broadcastTo S160x512 (subi (extractStridedSlice S1x512 off (k0_pay6 (F := Ideal) (k0_pay4 d) k0_pay5) hs) (broadcast S1x512 1#32)) broadcasts_S1x512_S160x512)
        (broadcastTo S160x512 (extractStridedSlice S1x512 off (k0_pay3 (F := Ideal) d) hs) broadcasts_S1x512_S160x512) (ix2 r t)
      = if dOf d t = BitVec.ofNat 32 k.val ∧ before (dOf d) (BitVec.ofNat 32 k.val) t = r.val then (1 : EReal) else 0 := by
  have hr : ∀ a : Fin S4x512.rank, ((ix2 k t : S4x512.Idx) a).val = off a + ((ix2 (0 : Fin 1) t : S1x512.Idx) (a.cast hs.1.symm)).val := by
    subst ho
    intro a
    match a with
    | ⟨0, _⟩ => exact (Nat.add_zero _).symm
    | ⟨1, _⟩ => exact (Nat.zero_add _).symm
  have hb : ∀ a : Fin S1x512.rank, ((ix2 (0 : Fin 1) t : S1x512.Idx) a).val
      = if S1x512.size a = 1 then 0 else ((ix2 r t : S160x512.Idx) ⟨a.val + (S160x512.rank - S1x512.rank), by have := a.isLt; omega⟩).val := by
    intro a
    match a with
    | ⟨0, _⟩ => rfl
    | ⟨1, _⟩ => rfl
  show Scalar.select (IntOp.andi (IntOp.cmpi .eq _ _) _) (Ideal.ofBits .f32 0x3F800000#32) (Ideal.ofBits .f32 0x00000000#32) = _
  rw [Ideal.ofBits_one_f32, Ideal.ofBits_zero_f32]
  refine (select_bits (cmpi_eq_iff _ _) (q := dOf d t = BitVec.ofNat 32 k.val) ?_ _ _).trans (if_congr ?_ rfl rfl)
  · rw [broadcastTo_apply _ _ (ix2 r t) (ix2 (0 : Fin 1) t) hb, extractStridedSlice_apply _ _ _ _ _ hr,
      pay3_apply, cmpi_eq_iff]
  · rw [broadcastTo_apply _ _ (ix2 r t) (ix2 (0 : Fin 1) t) hb]
    show IntOp.subi (extractStridedSlice S1x512 off _ hs (ix2 (0 : Fin 1) t)) 1#32 = _ ∧ _ ↔ _
    rw [extractStridedSlice_apply _ _ _ _ _ hr, pay6_apply, WordCmp.iota_at]
    simp only [List.foldl_cons, List.foldl_nil, Nat.zero_mul, Nat.zero_add, ValueIdx.ix2_0]
    exact takes_iff d k t r

theorem pay2_apply (x : Vec Ideal S512x256 .bf16) (j : S512x256.Idx) : k0_pay2 (F := Ideal) x j = x j :=
  shapeCast_apply _ _ j j rfl

/-- The packed block as a sum over the rows. -/
theorem packed_apply (x : Vec Ideal S512x256 .bf16) (d : Vec Ideal S512 .i32) (k : Fin 4) (r : Fin 160) (l : Fin 256) :
    (packed (F := Ideal) x d k (ix3 (0 : Fin 1) r l) : EReal)
      = ∑ t : Fin 512, if dOf d t = BitVec.ofNat 32 k.val ∧ before (dOf d) (BitVec.ofNat 32 k.val) t = r.val then (x (ix2 t l) : EReal) else 0 := by
  have key : ∀ (off : Fin S4x512.rank → ℕ) (ho : off = ![k.val, 0]) (hs : S4x512.Slices off S1x512),
      (takeRows (hotOf (broadcastTo S160x512 (subi (extractStridedSlice S1x512 off (k0_pay6 (F := Ideal) (k0_pay4 d) k0_pay5) hs) (broadcast S1x512 1#32)) broadcasts_S1x512_S160x512)
        (broadcastTo S160x512 (extractStridedSlice S1x512 off (k0_pay3 (F := Ideal) d) hs) broadcasts_S1x512_S160x512)) (k0_pay2 x) (ix3 (0 : Fin 1) r l) : EReal)
      = ∑ t : Fin 512, if dOf d t = BitVec.ofNat 32 k.val ∧ before (dOf d) (BitVec.ofNat 32 k.val) t = r.val then (x (ix2 t l) : EReal) else 0 := by
    intro off ho hs
    rw [takeRows_apply]
    refine Finset.sum_congr rfl fun t _ => ?_
    rw [hotOf_apply d k off ho hs, pay2_apply]
    exact ite_mul_self _ _
  match k with
  | 0 => exact key ![0, 0] rfl slices_S4x512_o0_0_S1x512
  | 1 => exact key ![1, 0] rfl slices_S4x512_o1_0_S1x512
  | 2 => exact key ![2, 0] rfl slices_S4x512_o2_0_S1x512
  | 3 => exact key ![3, 0] rfl slices_S4x512_o3_0_S1x512

end Cert.KernelIdealProof

end
-- ==== Proof.Value.Place.lean ====
/-
# Where the received rows go

A device counts the rows each device of its group sends it, and lays the four received blocks one after
another: row `r` of the block from place `i`, when it is one of the rows counted there, goes to the row
that is `r` past the counts of the earlier blocks. As a sum over the blocks and their rows.
-/
module

public import proofs.«01_k».proof.Proof.Ideal.Parts3
public import proofs.«01_k».proof.Proof.Value.Pack

@[expose] public section

noncomputable section

namespace Cert.KernelIdealProof

open Cert.KernelIdeal Cert.KernelIdeal.Gen Cert.Slots Cert.Order Cert.Words

open Idealize.ShloMosaic hiding ix1 ix2 ix3
open Idealize.ShloMosaic.ValueIdx
open scoped BigOperators

/-! ## The counts -/

/-- The count of the rows each place sends to `Z`. -/
theorem pay13_apply (Z : BitVec 32) (D : Vec Ideal S4x1x512 .i32) (i : Fin 4) :
    k0_pay13 (F := Ideal) Z D (ix1 i) = BitVec.ofNat 32 (total (fun t : Fin 512 => (D (ix3 i (0 : Fin 1) t) : BitVec 32)) Z) := by
  unfold k0_pay13
  show Ideal.fptosi 32 (multiReduction (F := Ideal) .add [1] S4 _ _ _ _ _ (ix1 i)) = _
  have e : ∀ t : Fin 512, (sitofp .f32 (extui 32 (cmpi .eq (shapeCast S4x512 D shapeCasts_S4x1x512_S4x512) (broadcast S4x512 Z)) natLt_1_32) : FVec Ideal S4x512 .f32)
        (reduces_S4x512_S4.lift (ix1 i) t) = if (D (ix3 i (0 : Fin 1) t) : BitVec 32) = Z then (1 : EReal) else 0 := by
    intro t
    show ((((IntOp.cmpi .eq (shapeCast S4x512 D shapeCasts_S4x1x512_S4x512 (reduces_S4x512_S4.lift (ix1 i) t)) Z).setWidth 32).toInt : ℝ) : EReal) = _
    rw [real_bit]
    have hl : reduces_S4x512_S4.lift (ix1 i) t = (ix2 i t : S4x512.Idx) := by
      funext a
      match a with
      | ⟨0, _⟩ => rfl
      | ⟨1, _⟩ => rfl
    rw [hl, shapeCast_apply _ _ (ix2 i t) (ix3 i (0 : Fin 1) t) (by
      rw [rowMajor_val2 _ 512 rfl, rowMajor_val3 _ (1 * 512) 512 rfl rfl]; simp)]
    simp only [cmpi_eq_iff]
  have hs := Ideal.multiReduction_add_single (sitofp .f32 (extui 32 (cmpi .eq (shapeCast S4x512 D shapeCasts_S4x1x512_S4x512) (broadcast S4x512 Z)) natLt_1_32) : FVec Ideal S4x512 .f32)
    0x00000000#32 reduces_S4x512_S4 (.inl rfl) rfl (ix1 i)
  have hs' := hs.trans ((Finset.sum_congr (s₂ := (Finset.univ : Finset (Fin 512))) rfl fun t _ => e t))
  refine (congrArg (Ideal.fptosi 32) (hs'.trans (sum_one fun t : Fin 512 => (D (ix3 i (0 : Fin 1) t) : BitVec 32) = Z))).trans ?_
  refine (fptosi_nat _ (lt_of_le_of_lt (Finset.card_le_univ _) ?_)).trans rfl
  show Fintype.card (Fin 512) < 2 ^ 31
  simp

/-! ## One block -/

/-- The selector that lays rows `r` below `cw` at rows `w + r`. -/
def layOf (w cw : BitVec 32) : FVec Ideal S512x160 .bf16 :=
  truncf .bf16 (select (andi (cmpi .eq rowI (addi (broadcast S512x160 w) colI)) (cmpi .slt colI (broadcast S512x160 cw)))
    (broadcast S512x160 (Scalar.ofBits .f32 0x3F800000#32 : Ideal .f32)) (broadcast S512x160 (Scalar.ofBits .f32 0x00000000#32 : Ideal .f32))) bitsLt_bf16_f32

/-- The rows of a block laid by a selector. -/
def layRows (h : FVec Ideal S512x160 .bf16) (b : Vec Ideal S1x160x256 .bf16) : FVec Ideal S512x256 .f32 :=
  matmul dot_S512x160_S160x256_S512x256_1_0_0_1_n_n none h (shapeCast S160x256 b shapeCasts_S1x160x256_S160x256 : FVec Ideal S160x256 .bf16)
    (constant S512x256 .f32 0x00000000#32)

theorem rowI_apply (p : Fin 512) (r : Fin 160) : rowI (ix2 p r) = BitVec.ofNat 32 p.val := by
  unfold rowI
  rw [WordCmp.iota_at]
  simp only [List.foldl_cons, List.foldl_nil, Nat.zero_mul, Nat.zero_add]

theorem colI_apply (p : Fin 512) (r : Fin 160) : colI (ix2 p r) = BitVec.ofNat 32 r.val := by
  unfold colI
  rw [WordCmp.iota_at]
  simp only [List.foldl_cons, List.foldl_nil, Nat.zero_mul, Nat.zero_add]

theorem layOf_apply (a k : ℕ) (ha : a ≤ 2048) (hk : k ≤ 512) (p : Fin 512) (r : Fin 160) :
    layOf (BitVec.ofNat 32 a) (BitVec.ofNat 32 k) (ix2 p r) = if p.val = a + r.val ∧ r.val < k then (1 : EReal) else 0 := by
  show Scalar.select (IntOp.andi (IntOp.cmpi .eq _ _) (IntOp.cmpi .slt _ _)) (Ideal.ofBits .f32 0x3F800000#32) (Ideal.ofBits .f32 0x00000000#32) = _
  rw [Ideal.ofBits_one_f32, Ideal.ofBits_zero_f32]
  refine (select_bits (cmpi_eq_iff _ _) (cmpi_slt_iff _ _) _ _).trans (if_congr (and_congr ?_ ?_) rfl rfl)
  · show rowI (ix2 p r) = BitVec.ofNat 32 a + colI (ix2 p r) ↔ _
    rw [rowI_apply, colI_apply]
    rw [← BitVec.ofNat_add]
    exact ofNat_inj (by omega) (by omega)
  · show (colI (ix2 p r)).toInt < (BitVec.ofNat 32 k).toInt ↔ _
    rw [colI_apply]
    rw [toInt_ofNat _ (by omega), toInt_ofNat _ (by omega)]
    exact Int.ofNat_lt

theorem layRows_apply (h : FVec Ideal S512x160 .bf16) (b : Vec Ideal S1x160x256 .bf16) (p : Fin 512) (l : Fin 256) :
    layRows h b (ix2 p l) = ∑ r : Fin 160, h (ix2 p r) * (b (ix3 (0 : Fin 1) r l) : EReal) := by
  unfold layRows
  show FloatOps.matmul (F := Ideal) (DotDims.plain 512 160 256) none h _ _ (ix2 p l) = _
  rw [Ideal.matmul_plain_apply]
  show Ideal.ofBits .f32 0x00000000#32 + _ = _
  rw [Ideal.ofBits_zero_f32, zero_add]
  refine Finset.sum_congr rfl fun r _ => ?_
  rw [shapeCast_apply _ _ (ix2 r l) (ix3 (0 : Fin 1) r l) (by
    rw [rowMajor_val2 _ 256 rfl, rowMajor_val3 _ (160 * 256) 256 rfl rfl]; simp)]

theorem lay_apply (a k : ℕ) (ha : a ≤ 2048) (hk : k ≤ 512) (b : Vec Ideal S1x160x256 .bf16) (p : Fin 512) (l : Fin 256) :
    layRows (layOf (BitVec.ofNat 32 a) (BitVec.ofNat 32 k)) b (ix2 p l)
      = ∑ r : Fin 160, if p.val = a + r.val ∧ r.val < k then (b (ix3 (0 : Fin 1) r l) : EReal) else 0 := by
  rw [layRows_apply]
  refine Finset.sum_congr rfl fun r _ => ?_
  rw [layOf_apply a k ha hk]
  exact ite_mul_self _ _

/-! ## The four blocks -/

/-- The rows the device writes are the four blocks laid, one after another. -/
theorem outOf_eq (v : IVec S4 32) (b0 b1 b2 b3 : Vec Ideal S1x160x256 .bf16) (p : Fin 512) (l : Fin 256) :
    (outOf v b0 b1 b2 b3 (ix2 p l) : EReal)
      = (((Ideal.ofBits .f32 0x00000000#32 + layRows (layOf 0#32 (v (ix1 0))) b0 (ix2 p l))
          + layRows (layOf (0#32 + v (ix1 0)) (v (ix1 1))) b1 (ix2 p l))
          + layRows (layOf (0#32 + v (ix1 0) + v (ix1 1)) (v (ix1 2))) b2 (ix2 p l))
          + layRows (layOf (0#32 + v (ix1 0) + v (ix1 1) + v (ix1 2)) (v (ix1 3))) b3 (ix2 p l) := by
  have hx : ∀ (k : Fin 4) (off : Fin S4.rank → ℕ) (ho : off = ![k.val]) (hs : S4.Slices off S1),
      extractAt ![0] (extractStridedSlice S1 off v hs) inpos_S1_p0 = v (ix1 k) := by
    intro k off ho hs
    subst ho
    refine congrArg v (funext fun a => ?_)
    match a with
    | ⟨0, _⟩ => exact Fin.ext (Nat.add_zero _)
  have h0 := hx 0 ![0] rfl slices_S4_o0_S1
  have h1 := hx 1 ![1] rfl slices_S4_o1_S1
  have h2 := hx 2 ![2] rfl slices_S4_o2_S1
  have h3 := hx 3 ![3] rfl slices_S4_o3_S1
  rw [← h0, ← h1, ← h2, ← h3]
  rfl

theorem base_zero (d : Fin 4 → Fin 512 → BitVec 32) (Z : BitVec 32) : base d Z 0 = 0 := by
  unfold base; rw [Fin.sum_univ_four]; simp
theorem base_one (d : Fin 4 → Fin 512 → BitVec 32) (Z : BitVec 32) : base d Z 1 = total (d 0) Z := by
  unfold base; rw [Fin.sum_univ_four]; simp
theorem base_two (d : Fin 4 → Fin 512 → BitVec 32) (Z : BitVec 32) : base d Z 2 = total (d 0) Z + total (d 1) Z := by
  unfold base; rw [Fin.sum_univ_four]
  rw [if_pos (by decide), if_pos (by decide), if_neg (by decide), if_neg (by decide)]; rfl
theorem base_three (d : Fin 4 → Fin 512 → BitVec 32) (Z : BitVec 32) :
    base d Z 3 = total (d 0) Z + total (d 1) Z + total (d 2) Z := by
  unfold base; rw [Fin.sum_univ_four]
  rw [if_pos (by decide), if_pos (by decide), if_pos (by decide), if_neg (by decide)]; rfl

/-- The rows written, from counts that are the group's totals. -/
theorem outOf_apply (d : Fin 4 → Fin 512 → BitVec 32) (Z : BitVec 32) (v : IVec S4 32)
    (hv : ∀ i, v (ix1 i) = BitVec.ofNat 32 (total (d i) Z)) (b : Fin 4 → Vec Ideal S1x160x256 .bf16) (p : Fin 512) (l : Fin 256) :
    (outOf v (b 0) (b 1) (b 2) (b 3) (ix2 p l) : EReal)
      = ∑ i : Fin 4, ∑ r : Fin 160, if p.val = base d Z i + r.val ∧ r.val < total (d i) Z then (b i (ix3 (0 : Fin 1) r l) : EReal) else 0 := by
  have t0 := total_le (d 0) Z
  have t1 := total_le (d 1) Z
  have t2 := total_le (d 2) Z
  have t3 := total_le (d 3) Z
  rw [outOf_eq, hv 0, hv 1, hv 2, hv 3, Ideal.ofBits_zero_f32, zero_add, BitVec.zero_add, ← BitVec.ofNat_add, ← BitVec.ofNat_add,
    ← base_three, ← base_two, ← base_one, Fin.sum_univ_four]
  have e0 := lay_apply (base d Z 0) (total (d 0) Z) (by rw [base_zero]; omega) t0 (b 0) p l
  rw [show BitVec.ofNat 32 (base d Z 0) = 0#32 by rw [base_zero]] at e0
  have e1 := lay_apply (base d Z 1) (total (d 1) Z) (by rw [base_one]; omega) t1 (b 1) p l
  have e2 := lay_apply (base d Z 2) (total (d 2) Z) (by rw [base_two]; omega) t2 (b 2) p l
  have e3 := lay_apply (base d Z 3) (total (d 3) Z) (by rw [base_three]; omega) t3 (b 3) p l
  rw [e1, e2, e3]
  refine congrArg (· + _ + _ + _) ?_
  rw [base_one]
  exact e0

end Cert.KernelIdealProof

end
-- ==== Proof.Value.Land.lean ====
/-
# What a device writes, row by row

Row `p` of a device's result is the row of the group that is the `p`-th bound for that device, and zeros
when fewer rows than that are bound for it, as long as no device of the group sends it more than a block.
-/
module

public import proofs.«01_k».proof.Proof.Ideal.Run
public import proofs.«01_k».proof.Proof.Value.Place

@[expose] public section

noncomputable section

namespace Cert.KernelIdealProof

open Cert.KernelIdeal Cert.KernelIdeal.Gen Cert.Slots Cert.Order Cert.Words

open Idealize.ShloMosaic hiding ix1 ix2 ix3
open Idealize.ShloMosaic.ValueIdx
open scoped BigOperators

section Sums

variable (d : Fin 4 → Fin 512 → BitVec 32) (Z : BitVec 32) (x : Fin 4 → Fin 512 → EReal)

/-- The packed blocks laid one after another, at row `p`. -/
def landed (p : ℕ) : EReal :=
  ∑ i : Fin 4, ∑ r : Fin 160, if p = base d Z i + r.val ∧ r.val < total (d i) Z then
    (∑ t : Fin 512, if d i t = Z ∧ before (d i) Z t = r.val then x i t else 0) else 0

theorem landed_hit (hfit : ∀ i, total (d i) Z ≤ 160) (p : ℕ) (i : Fin 4) (t : Fin 512) (hd : d i t = Z)
    (hp : base d Z i + before (d i) Z t = p) : landed d Z x p = x i t := by
  have hlt := before_lt_total (d i) Z t hd
  have hf := hfit i
  unfold landed
  rw [Finset.sum_eq_single i, Finset.sum_eq_single (⟨before (d i) Z t, by omega⟩ : Fin 160), if_pos ⟨hp.symm, hlt⟩,
    Finset.sum_eq_single t, if_pos ⟨hd, rfl⟩]
  · intro t' _ ht
    exact if_neg fun h => ht (eq_of_before_eq (d i) Z t' t h.1 hd h.2)
  · exact fun h => absurd (Finset.mem_univ _) h
  · intro r _ hr
    exact if_neg fun h => hr (Fin.ext (base_inj d Z h.2 hlt (h.1.symm.trans hp.symm)).2)
  · exact fun h => absurd (Finset.mem_univ _) h
  · intro i' _ hi
    exact Finset.sum_eq_zero fun r _ => if_neg fun h => hi (base_inj d Z h.2 hlt (h.1.symm.trans hp.symm)).1
  · exact fun h => absurd (Finset.mem_univ _) h

theorem landed_miss (p : ℕ) (h : ∀ i t, d i t = Z → base d Z i + before (d i) Z t ≠ p) : landed d Z x p = 0 := by
  refine Finset.sum_eq_zero fun i _ => Finset.sum_eq_zero fun r _ => ?_
  split
  · next e => exact Finset.sum_eq_zero fun t _ => if_neg fun e' => h i t e'.1 (by rw [e'.2]; exact e.1.symm)
  · rfl

end Sums

variable (m : (ℓ : Loc nD τ sig) → Buf (Elt Ideal) ℓ) (ρ : Dev nD → PrngReg)

theorem zw_eq (c : Dev nD) : zw c = BitVec.ofNat 32 (zc c).val := by revert c; decide

/-- The destinations and the rows of the group of `c`, by place. -/
def grpD (c : Dev nD) : Fin 4 → Fin 512 → BitVec 32 := fun i => dOf (m (((mem c i).tc : Thread nD τ).loc main_arg1))
def grpX (c : Dev nD) (l : Fin 256) : Fin 4 → Fin 512 → EReal := fun i t => (m (((mem c i).tc : Thread nD τ).loc main_arg0) (ix2 t l) : EReal)

theorem cnt_apply (c : Dev nD) (i : Fin 4) :
    cnt m ρ c (ix1 i) = BitVec.ofNat 32 (total (grpD m c i) (BitVec.ofNat 32 (zc c).val)) := by
  unfold cnt
  rw [pay13_apply, zw_eq]
  congr 2
  funext t
  have e : (ix3 i (0 : Fin 1) t : S4x1x512.Idx) = put i (ix3 (0 : Fin 1) (0 : Fin 1) t) := by
    funext a
    match a with
    | ⟨0, _⟩ => rfl
    | ⟨1, _⟩ => rfl
    | ⟨2, _⟩ => rfl
  unfold DG grpD dOf
  rw [e, asm_put, dstg_eq]
  unfold k0_pay1
  rw [shapeCast_apply _ _ (ix3 (0 : Fin 1) (0 : Fin 1) t) (ix2 (0 : Fin 1) t) (by
      rw [rowMajor_val2 _ 512 rfl, rowMajor_val3 _ (1 * 512) 512 rfl rfl]; simp),
    shapeCast_apply _ _ (ix2 (0 : Fin 1) t) (ix1 t) (by
      rw [rowMajor_val2 _ 512 rfl, rowMajor_val1]; simp),
    shapeCast_apply _ _ (ix1 t) (ix1 t) rfl]

theorem outAt_apply (c : Dev nD) (p : Fin 512) (l : Fin 256) :
    (outAt m ρ c (ix2 p l) : EReal) = landed (grpD m c) (BitVec.ofNat 32 (zc c).val) (grpX m c l) p.val := by
  unfold outAt
  refine (outOf_apply (grpD m c) (BitVec.ofNat 32 (zc c).val) (cnt m ρ c) (cnt_apply m ρ c) (blk m ρ c) p l).trans ?_
  unfold landed
  refine Finset.sum_congr rfl fun i _ => Finset.sum_congr rfl fun r _ => if_congr Iff.rfl ?_ rfl
  unfold blk RB
  rw [asm_put, packed_apply, dstg_eq, xstg_eq]
  rfl

end Cert.KernelIdealProof

end
-- ==== Proof.Value.Reference.lean ====
/-
# The reference, row by row

The reference sorts the rows by destination, keeping the order of equal ones, and gives place `z` the run of
the rows bound for it, cut or filled with zeros to 512 rows. Here its composed term is named step by step and
each step read at an index.
-/
module

public import proofs.«01_k».proof.Proof.Gen.ReferenceIdeal
public import proofs.«01_k».proof.Proof.Gen.ReferenceIdeal.Run
public import proofs.«01_k».proof.Proof.Value.Order
public import proofs.«01_k».proof.Proof.Value.Tables
public import Idealize.ShloMosaic.Lib.WordArith
public import Idealize.ShloMosaic.Lib.DynamicIndex

@[expose] public section

noncomputable section

namespace Cert.ReferenceProof

open Cert.ReferenceIdeal Cert.ReferenceIdeal.Gen Cert.Order Cert.Words Cert.Tables

open Idealize.ShloMosaic hiding ix1 ix2 ix3
open Idealize.ShloMosaic.ValueIdx
open scoped BigOperators

variable (x : FVec Ideal S2048x256 .bf16) (d : IVec S2048 32)

/-! ## The steps -/

/-- The destinations along the columns, and the places along the rows. -/
def dests : IVec S4x2048 32 := broadcastInDim S4x2048 ![0, 1] bcast_S1x2048_S4x2048_0_1 (broadcastInDim S1x2048 ![1] bcast_S2048_S1x2048_1 d)
def places : IVec S4x2048 32 := broadcastInDim S4x2048 ![0, 1] bcast_S4x1_S4x2048_0_1 (broadcastInDim S4x1 ![0] bcast_S4_S4x1_0 (iotaInDim S4 32 0))
/-- How many rows go below each place, and how many to it. -/
def starts : IVec S4 32 :=
  Host.reduce IntOp.addi (extui 32 (cmpi .slt (dests d) places) natLt_1_32) (constantI S_ 32 0#32) reducesTo_S4x2048_S4_d1 h_S_
def counts : IVec S4 32 :=
  Host.reduce IntOp.addi (extui 32 (cmpi .eq (dests d) places) natLt_1_32) (constantI S_ 32 0#32) reducesTo_S4x2048_S4_d1 h_S_
/-- A vector of four along the rows of a table, and the row numbers along its columns. -/
def spread (v : IVec S4 32) : IVec S4x512 32 := broadcastInDim S4x512 ![0, 1] bcast_S4x1_S4x512_0_1 (broadcastInDim S4x1 ![0] bcast_S4_S4x1_0 v)
def steps : IVec S4x512 32 := broadcastInDim S4x512 ![0, 1] bcast_S1x512_S4x512_0_1 (broadcastInDim S1x512 ![1] bcast_S512_S1x512_1 (iotaInDim S512 32 0))
/-- The sorted order, and the rows in it. -/
def order : IVec S2048 32 := (Host.sort2 S2048 0 comparator_i32_i32_d0 d (iotaInDim S2048 32 0)).2
def orderIdx : IVec S2048 32 :=
  select (cmpi .slt (order d) (broadcastInDim S2048 ![] bcast_S_S2048 (constantI S_ 32 0#32)))
    (addi (order d) (broadcastInDim S2048 ![] bcast_S_S2048 (constantI S_ 32 2048#32))) (order d)
def sorted : FVec Ideal S2048x256 .bf16 :=
  Host.gather gather_S2048x256_S2048x1_S2048x256_1_0_n_n_0_1_1256 x (broadcastInDim S2048x1 ![0] bcast_S2048_S2048x1_0 (orderIdx d))
/-- The positions each place takes of the sorted rows. -/
def spots : IVec S4x512 32 :=
  minsi (addi (spread (starts d)) steps) (broadcastInDim S4x512 ![] bcast_S_S4x512 (constantI S_ 32 2047#32))
def spotIdx : IVec S4x512 32 :=
  select (cmpi .slt (spots d) (broadcastInDim S4x512 ![] bcast_S_S4x512 (constantI S_ 32 0#32)))
    (addi (spots d) (broadcastInDim S4x512 ![] bcast_S_S4x512 (constantI S_ 32 2048#32))) (spots d)
def taken : FVec Ideal S4x512x256 .bf16 :=
  Host.gather gather_S2048x256_S4x512x1_S4x512x256_2_0_n_n_0_2_1256 (sorted x d) (broadcastInDim S4x512x1 ![0, 1] bcast_S4x512_S4x512x1_0_1 (spotIdx d))
def kept : IVec S4x512x256 1 :=
  broadcastInDim S4x512x256 ![0, 1, 2] bcast_S4x512x1_S4x512x256_0_1_2
    (broadcastInDim S4x512x1 ![0, 1] bcast_S4x512_S4x512x1_0_1 (cmpi .slt steps (spread (counts d))))
def zeros : FVec Ideal S4x512x256 .bf16 := broadcastInDim S4x512x256 ![] bcast_S_S4x512x256 (sitofp .bf16 (constantI S_ 32 0#32))
/-- The reference's result. -/
def refOut : FVec Ideal S2048x256 .f32 :=
  extf .f32 (shapeCast S2048x256 (select (kept d) (taken x d) zeros) shapeCasts_S4x512x256_S2048x256) bitsLt_bf16_f32

/-! ## Reading them -/

/-- The destinations as a function of the row. -/
def dest : Fin 2048 → BitVec 32 := fun g => d (ix1 g)

theorem dests_apply (i : Fin 4) (g : Fin 2048) : dests d (ix2 i g) = dest d g := across_apply (by decide) d _ _ i g

theorem places_apply (i : Fin 4) (g : Fin 2048) : places (ix2 i g) = BitVec.ofNat 32 i.val := by
  refine (down_apply (iotaInDim S4 32 0) _ _ i g).trans ?_
  rfl

theorem spread_apply (v : IVec S4 32) (i : Fin 4) (t : Fin 512) : spread v (ix2 i t) = v (ix1 i) := down_apply v _ _ i t

theorem steps_apply (i : Fin 4) (t : Fin 512) : steps (ix2 i t) = BitVec.ofNat 32 t.val :=
  (across_apply (by decide) (iotaInDim S512 32 0) _ _ i t).trans rfl

theorem counts_apply (i : Fin 4) : counts d (ix1 i) = BitVec.ofNat 32 (total (dest d) (BitVec.ofNat 32 i.val)) := by
  refine count_apply _ _ _ (by decide) _ i (fun g => dest d g = BitVec.ofNat 32 i.val) fun g => ?_
  show IntOp.cmpi .eq (dests d (ix2 i g)) (places (ix2 i g)) = 1#1 ↔ _
  rw [cmpi_eq_iff, dests_apply, places_apply]

theorem starts_apply (i : Fin 4) : starts d (ix1 i) = BitVec.ofNat 32 (below (dest d) (BitVec.ofNat 32 i.val)) := by
  refine count_apply _ _ _ (by decide) _ i (fun g => (dest d g).toInt < (BitVec.ofNat 32 i.val).toInt) fun g => ?_
  show IntOp.cmpi .slt (dests d (ix2 i g)) (places (ix2 i g)) = 1#1 ↔ _
  rw [cmpi_slt_iff, dests_apply, places_apply]

/-- Row `g` of the sorted order. -/
def source (g : Fin 2048) : Fin 2048 := sortedFrom (fun a b => IntOp.cmpi .slt (dest d a) (dest d b) == 1#1) g

theorem source_run (Z : BitVec 32) (k : ℕ) (hk : k < total (dest d) Z) (q : Fin 2048) (hq : q.val = below (dest d) Z + k) :
    dest d (source d q) = Z ∧ before (dest d) Z (source d q) = k := by
  refine sortedFrom_run (dest d) _ (fun a b => ?_) Z k hk q hq
  rw [beq_iff_eq, cmpi_slt_iff]

theorem ofFin_ix1 (g : Fin 2048) : (Shape.Idx.ofFin g : S2048.Idx) = ix1 g := by
  funext a
  match a with
  | ⟨0, _⟩ => exact Fin.ext rfl

theorem number_apply (g : Fin 2048) : iotaInDim S2048 32 0 (ix1 g) = BitVec.ofNat 32 g.val := rfl

theorem along_ix1 (j : S2048.Idx) (k : Fin 2048) : j.along (0 : Fin S2048.rank) k = ix1 k :=
  (Shape.Idx.along_rank1 j k).trans (ofFin_ix1 k)

theorem order_apply (g : Fin 2048) : order d (ix1 g) = BitVec.ofNat 32 (source d g).val := by
  let al : Fin 2048 → S2048.Idx := fun k => (ix1 g : S2048.Idx).along (0 : Fin S2048.rank) k
  have hp : (fun k k' : Fin 2048 => comparator_i32_i32_d0 (d (al k), iotaInDim S2048 32 0 (al k)) (d (al k'), iotaInDim S2048 32 0 (al k')) == 1#1)
      = fun a b => IntOp.cmpi .slt (dest d a) (dest d b) == 1#1 := by
    funext a b
    show (IntOp.cmpi .slt (d (al a)) (d (al b)) == 1#1) = _
    rw [show al a = ix1 a from along_ix1 _ a, show al b = ix1 b from along_ix1 _ b]
    rfl
  have e : order d (ix1 g) = iotaInDim S2048 32 0 (al (sortedFrom (fun k k' : Fin 2048 =>
      comparator_i32_i32_d0 (d (al k), iotaInDim S2048 32 0 (al k)) (d (al k'), iotaInDim S2048 32 0 (al k')) == 1#1) g)) := rfl
  rw [e, hp, show ∀ q, al q = ix1 q from fun q => along_ix1 _ q]
  exact number_apply _

/-- A nonnegative index is not moved. -/
theorem stay {s : Shape} (i z o : IVec s 32) (j : s.Idx) (k : ℕ) (hk : k < 2 ^ 31) (hi : i j = BitVec.ofNat 32 k) (hz : z j = 0#32) :
    select (cmpi .slt i z) (addi i o) i j = BitVec.ofNat 32 k := by
  show Scalar.select (IntOp.cmpi .slt (i j) (z j)) (i j + o j) (i j) = _
  have h : ¬ IntOp.cmpi .slt (i j) (z j) = 1#1 := by
    rw [cmpi_slt_iff, hi, hz, toInt_ofNat k hk]
    simp
  rw [← hi]
  exact if_neg h

theorem orderIdx_apply (g : Fin 2048) : orderIdx d (ix1 g) = BitVec.ofNat 32 (source d g).val :=
  stay _ _ _ _ _ (by have := (source d g).isLt; omega) (order_apply d g) rfl

/-- One row of the rows, at a row of start indices. -/
theorem gather_one (y : FVec Ideal S2048x256 .bf16) (idx : IVec S2048x1 32) (g : Fin 2048) (l : Fin 256) (q : Fin 2048)
    (hq : min (idx (ix2 g (0 : Fin 1))).toInt.toNat 2047 = q.val) :
    Host.gather gather_S2048x256_S2048x1_S2048x256_1_0_n_n_0_1_1256 y idx (ix2 g l) = y (ix2 q l) := by
  unfold Host.gather
  refine congrArg y (funext fun a => Fin.ext ?_)
  show GatherDims.start _ (ix2 g l) idx a + GatherDims.batchCoord _ (ix2 g l) a + GatherDims.offCoord _ (ix2 g l) a = _
  have ha : a = (0 : Fin 2) ∨ a = (1 : Fin 2) := by
    match a with
    | ⟨0, _⟩ => exact Or.inl rfl
    | ⟨1, _⟩ => exact Or.inr rfl
  rcases ha with rfl | rfl
  · rw [GatherDims.batchCoord_eq_zero _ _ _ (List.not_mem_nil), GatherDims.offCoord_eq_zero _ _ _ (fun h => ((GatherDims.mem_sKept _ _).mp h).1 (List.mem_singleton.mpr rfl)),
      Nat.add_zero]
    unfold GatherDims.start
    rw [dif_pos (show (0 : Fin 2) ∈ gather_S2048x256_S2048x1_S2048x256_1_0_n_n_0_1_1256.startIndexMap from List.mem_singleton.mpr rfl)]
    refine Eq.trans (congrArg (fun j => min (idx j).toInt.toNat 2047) (funext fun b => ?_)) hq
    match b with
    | ⟨0, _⟩ => rfl
    | ⟨1, _⟩ => rfl
  · rw [GatherDims.batchCoord_eq_zero _ _ _ (List.not_mem_nil)]
    unfold GatherDims.start
    rw [dif_neg (show ¬ (1 : Fin 2) ∈ gather_S2048x256_S2048x1_S2048x256_1_0_n_n_0_1_1256.startIndexMap from by decide), Nat.zero_add]
    rfl

/-- One row of the rows, at a table of start indices. -/
theorem gather_two (y : FVec Ideal S2048x256 .bf16) (idx : IVec S4x512x1 32) (z : Fin 4) (k : Fin 512) (l : Fin 256) (q : Fin 2048)
    (hq : min (idx (ix3 z k (0 : Fin 1))).toInt.toNat 2047 = q.val) :
    Host.gather gather_S2048x256_S4x512x1_S4x512x256_2_0_n_n_0_2_1256 y idx (ix3 z k l) = y (ix2 q l) := by
  unfold Host.gather
  refine congrArg y (funext fun a => Fin.ext ?_)
  show GatherDims.start _ (ix3 z k l) idx a + GatherDims.batchCoord _ (ix3 z k l) a + GatherDims.offCoord _ (ix3 z k l) a = _
  have ha : a = (0 : Fin 2) ∨ a = (1 : Fin 2) := by
    match a with
    | ⟨0, _⟩ => exact Or.inl rfl
    | ⟨1, _⟩ => exact Or.inr rfl
  rcases ha with rfl | rfl
  · rw [GatherDims.batchCoord_eq_zero _ _ _ (List.not_mem_nil), GatherDims.offCoord_eq_zero _ _ _ (fun h => ((GatherDims.mem_sKept _ _).mp h).1 (List.mem_singleton.mpr rfl)),
      Nat.add_zero]
    unfold GatherDims.start
    rw [dif_pos (show (0 : Fin 2) ∈ gather_S2048x256_S4x512x1_S4x512x256_2_0_n_n_0_2_1256.startIndexMap from List.mem_singleton.mpr rfl)]
    refine Eq.trans (congrArg (fun j => min (idx j).toInt.toNat 2047) (funext fun b => ?_)) hq
    match b with
    | ⟨0, _⟩ => rfl
    | ⟨1, _⟩ => rfl
    | ⟨2, _⟩ => rfl
  · rw [GatherDims.batchCoord_eq_zero _ _ _ (List.not_mem_nil)]
    unfold GatherDims.start
    rw [dif_neg (show ¬ (1 : Fin 2) ∈ gather_S2048x256_S4x512x1_S4x512x256_2_0_n_n_0_2_1256.startIndexMap from by decide), Nat.zero_add]
    rfl

theorem clamp_ofNat (k : ℕ) (hk : k < 2048) : min (BitVec.ofNat 32 k).toInt.toNat 2047 = k := by
  rw [toInt_ofNat k (by omega), Int.toNat_natCast]; omega

theorem sorted_apply (g : Fin 2048) (l : Fin 256) : sorted x d (ix2 g l) = x (ix2 (source d g) l) := by
  refine gather_one x _ g l (source d g) ?_
  rw [broadcastInDim_apply _ _ _ (ix2 g (0 : Fin 1)) (ix1 g) (fun a => by
    match a with
    | ⟨0, _⟩ => exact (if_neg (show (2048 : ℕ) ≠ 1 by decide)).symm), orderIdx_apply]
  exact clamp_ofNat _ (source d g).isLt

theorem spots_apply (z : Fin 4) (k : Fin 512) (hk : below (dest d) (BitVec.ofNat 32 z.val) + k.val < 2048) :
    spots d (ix2 z k) = BitVec.ofNat 32 (below (dest d) (BitVec.ofNat 32 z.val) + k.val) := by
  show IntOp.minsi (spread (starts d) (ix2 z k) + steps (ix2 z k)) 2047#32 = _
  rw [spread_apply, steps_apply, starts_apply, ← BitVec.ofNat_add]
  refine BitVec.eq_of_toNat_eq ?_
  rw [WordArith.toNat_minsi_of_lt _ _ (by rw [BitVec.toNat_ofNat]; omega) (by decide), BitVec.toNat_ofNat]
  show min _ 2047 = _
  omega

theorem taken_apply (z : Fin 4) (k : Fin 512) (l : Fin 256) (q : Fin 2048) (hq : q.val = below (dest d) (BitVec.ofNat 32 z.val) + k.val) :
    taken x d (ix3 z k l) = x (ix2 (source d q) l) := by
  have hl : below (dest d) (BitVec.ofNat 32 z.val) + k.val < 2048 := by have := q.isLt; omega
  refine (gather_two (sorted x d) _ z k l q ?_).trans (sorted_apply x d q l)
  rw [broadcastInDim_apply _ _ _ (ix3 z k (0 : Fin 1)) (ix2 z k) (fun a => by
    match a with
    | ⟨0, _⟩ => exact (if_neg (show (4 : ℕ) ≠ 1 by decide)).symm
    | ⟨1, _⟩ => exact (if_neg (show (512 : ℕ) ≠ 1 by decide)).symm)]
  have e : spotIdx d (ix2 z k) = BitVec.ofNat 32 (below (dest d) (BitVec.ofNat 32 z.val) + k.val) :=
    stay _ _ _ _ _ (by omega) (spots_apply d z k hl) rfl
  rw [e, clamp_ofNat _ hl, hq]

theorem kept_apply (z : Fin 4) (k : Fin 512) (l : Fin 256) :
    kept d (ix3 z k l) = 1#1 ↔ k.val < total (dest d) (BitVec.ofNat 32 z.val) := by
  unfold kept
  rw [broadcastInDim_apply _ _ _ (ix3 z k l) (ix3 z k (0 : Fin 1)) (fun a => by
      match a with
      | ⟨0, _⟩ => exact (if_neg (show (4 : ℕ) ≠ 1 by decide)).symm
      | ⟨1, _⟩ => exact (if_neg (show (512 : ℕ) ≠ 1 by decide)).symm
      | ⟨2, _⟩ => exact (if_pos rfl).symm),
    broadcastInDim_apply _ _ _ (ix3 z k (0 : Fin 1)) (ix2 z k) (fun a => by
      match a with
      | ⟨0, _⟩ => exact (if_neg (show (4 : ℕ) ≠ 1 by decide)).symm
      | ⟨1, _⟩ => exact (if_neg (show (512 : ℕ) ≠ 1 by decide)).symm)]
  show IntOp.cmpi .slt (steps (ix2 z k)) (spread (counts d) (ix2 z k)) = 1#1 ↔ _
  have ht := total_le (dest d) (BitVec.ofNat 32 z.val)
  rw [cmpi_slt_iff, steps_apply, spread_apply, counts_apply, toInt_ofNat _ (by omega), toInt_ofNat _ (by omega)]
  exact Int.ofNat_lt

theorem zeros_apply (j : S4x512x256.Idx) : (zeros j : EReal) = 0 := by
  show (((0#32 : BitVec 32).toInt : ℝ) : EReal) = 0
  simp

theorem extf_at (v : FVec Ideal S2048x256 .bf16) (j : S2048x256.Idx) : (extf .f32 v bitsLt_bf16_f32 j : EReal) = v j := rfl

theorem select_pos {s : Shape} {α : Type} (c : IVec s 1) (a b : s.Idx → α) (j : s.Idx) (h : c j = 1#1) : select c a b j = a j := if_pos h
theorem select_neg {s : Shape} {α : Type} (c : IVec s 1) (a b : s.Idx → α) (j : s.Idx) (h : ¬ c j = 1#1) : select c a b j = b j := if_neg h

/-- The result at row `k` of place `z`. -/
theorem refOut_apply (z : Fin 4) (k : Fin 512) (l : Fin 256) :
    (refOut x d (ix2 (row z k) l) : EReal) = select (kept d) (taken x d) zeros (ix3 z k l) := by
  unfold refOut
  rw [extf_at]
  exact shapeCast_apply _ _ (ix2 (row z k) l) (ix3 z k l) (by
    rw [rowMajor_val2 _ 256 rfl, rowMajor_val3 _ (512 * 256) 256 rfl rfl]
    show z.val * (512 * 256) + k.val * 256 + l.val = (512 * z.val + k.val) * 256 + l.val
    ring)

theorem refOut_hit (z : Fin 4) (k : Fin 512) (l : Fin 256) (hk : k.val < total (dest d) (BitVec.ofNat 32 z.val)) :
    ∃ g : Fin 2048, dest d g = BitVec.ofNat 32 z.val ∧ before (dest d) (BitVec.ofNat 32 z.val) g = k.val
      ∧ (refOut x d (ix2 (row z k) l) : EReal) = x (ix2 g l) := by
  have hb := below_add_total_le (dest d) (BitVec.ofNat 32 z.val)
  let q : Fin 2048 := ⟨below (dest d) (BitVec.ofNat 32 z.val) + k.val, by omega⟩
  obtain ⟨h1, h2⟩ := source_run d (BitVec.ofNat 32 z.val) k.val hk q rfl
  refine ⟨source d q, h1, h2, ?_⟩
  rw [refOut_apply, ← taken_apply x d z k l q rfl]
  exact select_pos _ _ _ _ ((kept_apply d z k l).mpr hk)

theorem refOut_miss (z : Fin 4) (k : Fin 512) (l : Fin 256) (hk : ¬ k.val < total (dest d) (BitVec.ofNat 32 z.val)) :
    (refOut x d (ix2 (row z k) l) : EReal) = 0 := by
  rw [refOut_apply, ← zeros_apply (ix3 z k l)]
  exact select_neg _ _ _ _ (fun h => hk ((kept_apply d z k l).mp h))

end Cert.ReferenceProof

end
-- ==== Proof.Value.Equal.lean ====
/-
# The kernel's rows are the reference's

With the data cut into four blocks of rows, the group's blocks in order of place, a device at place `z` writes
the rows of the reference at place `z`.
-/
module

public import Idealize.ShloMosaic.Lib.Layout
public import proofs.«01_k».proof.Proof.Value.Fit
public import proofs.«01_k».proof.Proof.Value.Land
public import proofs.«01_k».proof.Proof.Value.Reference

@[expose] public section

noncomputable section

namespace Cert.Equal

open Cert.Order Cert.Words Cert.KernelIdealProof Cert.ReferenceProof
open Cert.KernelIdeal (nD τ sig main_arg0 main_arg1)
open Idealize.ShloMosaic hiding ix1 ix2 ix3
open Idealize.ShloMosaic.ValueIdx
open Idealize.ShloMosaic.TcCoe

/-- Where an element of a device's block of rows is among all the rows. -/
theorem at_rows {α : Type} (c : Dev nD) (v : (⟨2, ![2048, 256]⟩ : Shape).Idx → α) (p : Fin 512) (l : Fin 256) :
    Layout.blockN ⟨2, ![512, 256]⟩ ⟨2, ![2048, 256]⟩ (Layout.meshBlock [2, 4, 4] ![[2], []] c) v (by decide) (ix2 p l)
      = v (ix2 (row (zc c) p) l) := by
  rw [Layout.blockN_apply]
  refine congrArg v (funext fun a => Fin.ext ?_)
  rw [Layout.TilesN.idx_val]
  have hz : Layout.meshLin [2, 4, 4] c.val [2] = c.val % 4 := by revert c; decide
  match a with
  | ⟨0, _⟩ =>
    show Layout.meshLin [2, 4, 4] c.val [2] * 512 + p.val = 512 * (c.val % 4) + p.val
    rw [hz]; omega
  | ⟨1, _⟩ =>
    show 0 * 256 + l.val = l.val
    omega

theorem at_dests {α : Type} (c : Dev nD) (v : (⟨1, ![2048]⟩ : Shape).Idx → α) (p : Fin 512) :
    Layout.blockN ⟨1, ![512]⟩ ⟨1, ![2048]⟩ (Layout.meshBlock [2, 4, 4] ![[2]] c) v (by decide) (ix1 p) = v (ix1 (row (zc c) p)) := by
  rw [Layout.blockN_apply]
  refine congrArg v (funext fun a => Fin.ext ?_)
  rw [Layout.TilesN.idx_val]
  have hz : Layout.meshLin [2, 4, 4] c.val [2] = c.val % 4 := by revert c; decide
  match a with
  | ⟨0, _⟩ =>
    show Layout.meshLin [2, 4, 4] c.val [2] * 512 + p.val = 512 * (c.val % 4) + p.val
    rw [hz]; omega

theorem zc_mem (c : Dev nD) (i : Fin 4) : zc (mem c i) = i := by
  refine Fin.ext ?_
  show (4 * (c.val / 4) + i.val) % 4 = i.val
  have := i.isLt
  omega

variable (m : (ℓ : Loc nD τ sig) → Buf (Elt Ideal) ℓ) (ρ : Dev nD → PrngReg)
  (x : FVec Ideal Cert.ReferenceIdeal.S2048x256 .bf16) (d : IVec Cert.ReferenceIdeal.S2048 32)

/-- The device's rows are the reference's. -/
theorem out_eq (hx : ∀ c : Dev nD, m ((c.tc : Thread nD τ).loc main_arg0)
      = Layout.blockN ⟨2, ![512, 256]⟩ ⟨2, ![2048, 256]⟩ (Layout.meshBlock [2, 4, 4] ![[2], []] c) x)
    (hd : ∀ c : Dev nD, m ((c.tc : Thread nD τ).loc main_arg1)
      = Layout.blockN ⟨1, ![512]⟩ ⟨1, ![2048]⟩ (Layout.meshBlock [2, 4, 4] ![[2]] c) d)
    (hfit : ∀ (c : Dev nD) (k : Fin 4), total (dOf (m ((c.tc : Thread nD τ).loc main_arg1))) (BitVec.ofNat 32 k.val) ≤ 160) (c : Dev nD) :
    outAt m ρ c = Layout.blockN ⟨2, ![512, 256]⟩ ⟨2, ![2048, 256]⟩ (Layout.meshBlock [2, 4, 4] ![[2], []] c) (refOut x d) := by
  funext j
  obtain ⟨p, l, rfl⟩ : ∃ (p : Fin 512) (l : Fin 256), j = ix2 p l := ⟨j 0, j 1, ValueIdx.eq_ix2 j⟩
  have hD : grpD m c = fun i t => dest d (row i t) := by
    funext i t
    unfold grpD dOf
    rw [hd, at_dests, zc_mem]
    rfl
  have hX : grpX m c l = fun i t => (x (ix2 (row i t) l) : EReal) := by
    funext i t
    unfold grpX
    rw [hx, at_rows, zc_mem]
  have hF : ∀ i, total (grpD m c i) (BitVec.ofNat 32 (zc c).val) ≤ 160 := fun i => hfit (mem c i) (zc c)
  refine (outAt_apply m ρ c p l).trans (Eq.trans ?_ (at_rows c (refOut x d) p l).symm)
  rw [hD] at hF ⊢
  rw [hX]
  by_cases hk : p.val < total (dest d) (BitVec.ofNat 32 (zc c).val)
  · obtain ⟨g, hg, hb, e⟩ := refOut_hit x d (zc c) p l hk
    obtain ⟨i, t, rfl⟩ := exists_row g
    rw [before_row] at hb
    exact (landed_hit _ _ _ hF p.val i t hg hb).trans e.symm
  · refine (landed_miss _ _ _ p.val fun i t hg hb => hk ?_).trans (refOut_miss x d (zc c) p l hk).symm
    rw [← hb, ← before_row (dest d)]
    exact before_lt_total _ _ _ hg

end Cert.Equal

end
-- ==== Proof.lean ====
/-
# The certificate

Assembles what the modules under `Proof/` prove.
-/
module

public import proofs.«01_k».proof.Defs
public import proofs.«01_k».proof.Proof.Run
public import proofs.«01_k».proof.Proof.Ideal.Run
public import proofs.«01_k».proof.Proof.Gen.ReferenceIdeal
public import proofs.«01_k».proof.Proof.Gen.ReferenceIdeal.Run
public import proofs.«01_k».proof.Proof.Value.Equal

@[expose] public section

noncomputable section

namespace Cert.Proof

open Idealize.ShloMosaic Idealize.SL.Sem

/-- Every execution of the kernel ends, its arguments as they were, every semaphore at zero. -/
theorem frame_kernel : Cert.quiescent_Kernel := fun m ρ _ => Cert.KernelProof.quiescent m ρ
theorem frame_kernelIdeal : Cert.quiescent_KernelIdeal := fun m ρ _ => Cert.KernelIdealProof.quiescent m ρ

/-- The reference runs, its arguments as they were; it has no semaphore. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run m ρ)

/-- From the same data cut into blocks of rows, no device sending one place more than a block of 160: each device
    ends with its block of what the reference ends with. -/
theorem algebraic [Cert.Pre_rows_fit_KernelIdeal.Facts] : Cert.algebraic_KernelIdeal_ReferenceIdeal_pre_rows_fit_KernelIdeal := by
  intro m ρ m' ρ' hpre hblk
  refine ⟨Cert.ReferenceProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h c).1.trans ?_, (h c).2.1, (h c).2.2⟩) (Cert.KernelIdealProof.result m ρ)
    exact Cert.Equal.out_eq m ρ _ _ (fun c => (hblk c).1) (fun c => (hblk c).2) (fun c k => Cert.Fit.total_le_of_fits _ _ (hpre c) k) c
  · exact (θ_run Cert.ReferenceIdeal.defs _ _).mono (fun r h => ⟨(h 0).1, (h 0).2.1, (h 0).2.2⟩) (Cert.ReferenceIdeal.Value.run m' ρ')

theorem claim : Cert.Claim :=
  haveI := Cert.Fit.facts_kernel
  ⟨Cert.Kernel.Gen.facts, Cert.KernelIdeal.Gen.facts, Cert.ReferenceIdeal.Gen.facts, Cert.Fit.facts_kernel, Cert.Fit.facts_reference,
    frame_kernel, frame_kernelIdeal, fun m ρ _ => Cert.KernelIdealProof.quiescent m ρ, frame_reference,
    fun m ρ _ => frame_reference m ρ trivial, trivial, algebraic⟩

end Cert.Proof

end
